-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_in_range [hPre_gamma_in_range : Cert.Pre_gamma_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_in_range [hPre_gamma_in_range : Cert.Pre_gamma_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gamma_in_range [hKernelIdeal : Cert.KernelIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gamma_in_range [hReferenceIdeal : Cert.ReferenceIdeal.Facts] [hPre_gamma_in_range : Cert.Pre_gamma_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_gamma_in_range [hKernelIdeal : Cert.KernelIdeal.Facts] [hReferenceIdeal : Cert.ReferenceIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_gamma_in_range : Cert.Pre_gamma_in_range.Facts),
    quiescent_Kernel (hKernel := hKernel)
    ∧ quiescent_KernelIdeal (hKernelIdeal := hKernelIdeal)
    ∧ quiescent_KernelIdeal_pre_gamma_in_range (hKernelIdeal := hKernelIdeal) (hPre_gamma_in_range := hPre_gamma_in_range)
    ∧ quiescent_ReferenceIdeal (hReferenceIdeal := hReferenceIdeal)
    ∧ quiescent_ReferenceIdeal_pre_gamma_in_range (hReferenceIdeal := hReferenceIdeal) (hPre_gamma_in_range := hPre_gamma_in_range)
    ∧ preserves_Kernel_KernelIdeal
    ∧ algebraic_KernelIdeal_ReferenceIdeal_pre_gamma_in_range (hKernelIdeal := hKernelIdeal) (hReferenceIdeal := hReferenceIdeal) (hPre_gamma_in_range := hPre_gamma_in_range)
-- ==== Pre_gamma_in_range.lean ====
abbrev S2x8192x7168 : Shape := ⟨3, ![2, 8192, 7168]⟩
abbrev S7168 : Shape := ⟨1, ![7168]⟩
abbrev S7168x18432 : Shape := ⟨2, ![7168, 18432]⟩
abbrev S_ : Shape := ⟨0, ![]⟩

class Facts : Prop where
  bcast_S_S7168 : S_.BroadcastsInDim S7168 (![] : Fin 0 → Fin S7168.rank)
  reducesTo_S7168_S_d0 : S7168.ReducesTo [0] S_
  h_S_ : 0 < S_.numel

variable [Facts]

def fn {F : FTy → Type} [FloatOps F] (main_arg0 : FVec F S2x8192x7168 .bf16) (main_arg1 : FVec F S7168 .bf16) (main_arg2 : FVec F S7168x18432 .fp8e4m3) (main_arg3 : FVec F S_ .f32) : IVec S_ 1 :=
  let main_v0 : FVec F S7168 .bf16 := Host.absf main_arg1
  let main_cst : FVec F S_ .bf16 := constant S_ .bf16 0x7F7F#16
  let main_v1 : FVec F S7168 .bf16 := broadcastInDim S7168 ![] bcast_S_S7168 main_cst
  let main_v2 : IVec S7168 1 := cmpf .ole main_v0 main_v1
  let main_c : IVec S_ 1 := constantI S_ 1 1#1
  let main_v3 : IVec S_ 1 := (fun x v => Host.reduce IntOp.andi x v reducesTo_S7168_S_d0 h_S_) main_v2 main_c
  main_v3
-- ==== Kernel.lean ====
abbrev S2x8192x7168 : Shape := ⟨3, ![2, 8192, 7168]⟩
abbrev S7168 : Shape := ⟨1, ![7168]⟩
abbrev S7168x18432 : Shape := ⟨2, ![7168, 18432]⟩
abbrev S_ : Shape := ⟨0, ![]⟩
abbrev S16384x7168 : Shape := ⟨2, ![16384, 7168]⟩
abbrev S1x7168 : Shape := ⟨2, ![1, 7168]⟩
abbrev S16384x128 : Shape := ⟨2, ![16384, 128]⟩
abbrev S1x1 : Shape := ⟨2, ![1, 1]⟩
abbrev S256x7168 : Shape := ⟨2, ![256, 7168]⟩
abbrev S256x128 : Shape := ⟨2, ![256, 128]⟩
abbrev S8x7168 : Shape := ⟨2, ![8, 7168]⟩
abbrev S256 : Shape := ⟨1, ![256]⟩
abbrev S256x1 : Shape := ⟨2, ![256, 1]⟩
abbrev S32x8x7168 : Shape := ⟨3, ![32, 8, 7168]⟩
abbrev S1x8x7168 : Shape := ⟨3, ![1, 8, 7168]⟩
abbrev S1 : Shape := ⟨1, ![1]⟩
abbrev S1x1x1 : Shape := ⟨3, ![1, 1, 1]⟩
abbrev S16384x18432 : Shape := ⟨2, ![16384, 18432]⟩
abbrev S1024x7168 : Shape := ⟨2, ![1024, 7168]⟩
abbrev S7168x1024 : Shape := ⟨2, ![7168, 1024]⟩
abbrev S1024x1024 : Shape := ⟨2, ![1024, 1024]⟩
abbrev S2x8192x18432 : Shape := ⟨3, ![2, 8192, 18432]⟩

abbrev nBuf : Space → Nat
  | .hbm => 15
  | .vmem => 19
  | .smem => 5
  | _ => 0

abbrev bufTy : (tb : Table) → Fin (tcTables nBuf tb) → BufTy
  | .hbm, ⟨0, _⟩ => ⟨S2x8192x7168, .bf16⟩
  | .hbm, ⟨1, _⟩ => ⟨S7168, .bf16⟩
  | .hbm, ⟨2, _⟩ => ⟨S7168x18432, .fp8e4m3⟩
  | .hbm, ⟨3, _⟩ => ⟨S_, .f32⟩
  | .hbm, ⟨4, _⟩ => ⟨S16384x7168, .bf16⟩
  | .hbm, ⟨5, _⟩ => ⟨S1x7168, .bf16⟩
  | .hbm, ⟨6, _⟩ => ⟨S16384x128, .f32⟩
  | .hbm, ⟨7, _⟩ => ⟨S1x1, .f32⟩
  | .hbm, ⟨8, _⟩ => ⟨S1x1, .f32⟩
  | .hbm, ⟨9, _⟩ => ⟨S16384x7168, .fp8e4m3⟩
  | .hbm, ⟨10, _⟩ => ⟨S1x1, .f32⟩
  | .hbm, ⟨11, _⟩ => ⟨S16384x18432, .bf16⟩
  | .hbm, ⟨12, _⟩ => ⟨S2x8192x18432, .bf16⟩
  | .hbm, ⟨13, _⟩ => ⟨S2x8192x7168, .fp8e4m3⟩
  | .hbm, ⟨14, _⟩ => ⟨S_, .f32⟩
  | .local _ .vmem, ⟨0, _⟩ => ⟨S256x7168, .bf16⟩
  | .local _ .vmem, ⟨1, _⟩ => ⟨S256x7168, .bf16⟩
  | .local _ .vmem, ⟨2, _⟩ => ⟨S1x7168, .bf16⟩
  | .local _ .vmem, ⟨3, _⟩ => ⟨S256x128, .f32⟩
  | .local _ .vmem, ⟨4, _⟩ => ⟨S256x128, .f32⟩
  | .local _ .vmem, ⟨5, _⟩ => ⟨S8x7168, .f32⟩
  | .local _ .vmem, ⟨6, _⟩ => ⟨S256x7168, .bf16⟩
  | .local _ .vmem, ⟨7, _⟩ => ⟨S256x7168, .bf16⟩
  | .local _ .vmem, ⟨8, _⟩ => ⟨S1x7168, .bf16⟩
  | .local _ .vmem, ⟨9, _⟩ => ⟨S256x128, .f32⟩
  | .local _ .vmem, ⟨10, _⟩ => ⟨S256x128, .f32⟩
  | .local _ .vmem, ⟨11, _⟩ => ⟨S256x7168, .fp8e4m3⟩
  | .local _ .vmem, ⟨12, _⟩ => ⟨S256x7168, .fp8e4m3⟩
  | .local _ .vmem, ⟨13, _⟩ => ⟨S1024x7168, .fp8e4m3⟩
  | .local _ .vmem, ⟨14, _⟩ => ⟨S1024x7168, .fp8e4m3⟩
  | .local _ .vmem, ⟨15, _⟩ => ⟨S7168x1024, .fp8e4m3⟩
  | .local _ .vmem, ⟨16, _⟩ => ⟨S7168x1024, .fp8e4m3⟩
  | .local _ .vmem, ⟨17, _⟩ => ⟨S1024x1024, .bf16⟩
  | .local _ .vmem, ⟨18, _⟩ => ⟨S1024x1024, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S2x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc0_stg3_0 : Ref sig .tc := ⟨.smem, 0, rfl⟩
abbrev cc0_stg4_0 : Ref sig .tc := ⟨.smem, 1, rfl⟩
abbrev cc1_stg0_0 : Ref sig .tc := ⟨.smem, 2, rfl⟩
abbrev cc2_stg0_0 : Ref sig .tc := ⟨.smem, 3, rfl⟩
abbrev cc2_stg1_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v27 : BitVec 1 := Scalar.cmpi .eq arg0 c63_i32
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x7168 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x7168 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x7168 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![16, 18], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .smem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x7168 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S7168x1024 .fp8e4m3 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== KernelIdeal.lean ====
variable {F : FTy → Type} [FloatOps F] [Named F]
def κ : String → Option EReal := fun
  | "inv_d" => some ((1 / 7168 : ℝ) : EReal)
  | _ => none
-- ==== ReferenceIdeal.lean ====
abbrev S2x8192x7168 : Shape := ⟨3, ![2, 8192, 7168]⟩
abbrev S7168 : Shape := ⟨1, ![7168]⟩
abbrev S7168x18432 : Shape := ⟨2, ![7168, 18432]⟩
abbrev S_ : Shape := ⟨0, ![]⟩
abbrev S16384x7168 : Shape := ⟨2, ![16384, 7168]⟩
abbrev S1x7168 : Shape := ⟨2, ![1, 7168]⟩
abbrev S1x1 : Shape := ⟨2, ![1, 1]⟩
abbrev S16384x18432 : Shape := ⟨2, ![16384, 18432]⟩
abbrev S16384 : Shape := ⟨1, ![16384]⟩
abbrev S16384x1 : Shape := ⟨2, ![16384, 1]⟩
abbrev S1x16384x7168 : Shape := ⟨3, ![1, 16384, 7168]⟩
abbrev S1 : Shape := ⟨1, ![1]⟩
abbrev S1x1x1 : Shape := ⟨3, ![1, 1, 1]⟩
abbrev S1x253 : Shape := ⟨2, ![1, 253]⟩
abbrev S1x1x253 : Shape := ⟨3, ![1, 1, 253]⟩
abbrev S2x8192x18432 : Shape := ⟨3, ![2, 8192, 18432]⟩

abbrev nBuf : Space → Nat
  | .hbm => 13
  | .vmem => 5
  | .smem => 2
  | _ => 0

abbrev bufTy : (tb : Table) → Fin (tcTables nBuf tb) → BufTy
  | .hbm, ⟨0, _⟩ => ⟨S2x8192x7168, .bf16⟩
  | .hbm, ⟨1, _⟩ => ⟨S7168, .bf16⟩
  | .hbm, ⟨2, _⟩ => ⟨S7168x18432, .fp8e4m3⟩
  | .hbm, ⟨3, _⟩ => ⟨S_, .f32⟩
  | .hbm, ⟨4, _⟩ => ⟨S16384x7168, .bf16⟩
  | .hbm, ⟨5, _⟩ => ⟨S1x7168, .bf16⟩
  | .hbm, ⟨6, _⟩ => ⟨S1x1, .f32⟩
  | .hbm, ⟨7, _⟩ => ⟨S16384x18432, .bf16⟩
  | .hbm, ⟨8, _⟩ => ⟨S16384x7168, .fp8e4m3⟩
  | .hbm, ⟨9, _⟩ => ⟨S1x1, .f32⟩
  | .hbm, ⟨10, _⟩ => ⟨S2x8192x18432, .bf16⟩
  | .hbm, ⟨11, _⟩ => ⟨S2x8192x7168, .fp8e4m3⟩
  | .hbm, ⟨12, _⟩ => ⟨S_, .f32⟩
  | .local _ .vmem, ⟨0, _⟩ => ⟨S16384x7168, .bf16⟩
  | .local _ .vmem, ⟨1, _⟩ => ⟨S1x7168, .bf16⟩
  | .local _ .vmem, ⟨2, _⟩ => ⟨S7168x18432, .fp8e4m3⟩
  | .local _ .vmem, ⟨3, _⟩ => ⟨S16384x18432, .bf16⟩
  | .local _ .vmem, ⟨4, _⟩ => ⟨S16384x7168, .fp8e4m3⟩
  | .local _ .smem, ⟨0, _⟩ => ⟨S1x1, .f32⟩
  | .local _ .smem, ⟨1, _⟩ => ⟨S1x1, .f32⟩
  | _, _ => ⟨S2x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg3_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x18432 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Whole.Stats.lean ====
/-
  The first call (`_stats`): its body's run at each grid point, the buffers it leaves point by point, and its triple.
  Everything is stated at the buffer contents `V` with which the call is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
-- the buffer contents with which the call is entered
variable (V : (c : Dev nD) → (b : Ref sig .tc) → Buf (Elt F) ((c : Thread nD τ).loc b))

/-! # REGION 0 of @main: custom_call 0, `cc0_stats` (pipeline 0) -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): by
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): by
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_1, k0_cond2, e0]
    word_cmp
   : ∀ t : Fin grid0.N, cond0_1 (grid0.coords t) ↔ t.val % 64 = 63)

/-! ## Where the windows are idle (`Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an output stored at every point, under no condition). -/
theorem liveAt0_2 : ∀ t : Fin cfg0.N, cfg0.idle 2 (grid0.coords t) = false := fun _ => rfl
/-- At the points of case A `Cfg.idle` calls output 3 idle: the case stores nothing into it. -/
theorem idleAt0_3_A : ∀ t : Fin cfg0.N, cond0_0 (grid0.coords t) → ¬cond0_1 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → (cfg0.win 3).flush t = false := by decide +kernel
/-- At the points of case B `Cfg.idle` calls output 3 idle: the case stores nothing into it. -/
theorem idleAt0_3_B : ∀ t : Fin cfg0.N, ¬cond0_0 (grid0.coords t) → ¬cond0_1 (grid0.coords t) → cfg0.idle 3 (grid0.coords t) = true := by decide +kernel
/-- At the points of case B the pipeline does not write output 3's block back. -/
theorem noFlush0_3_B : ∀ t : Fin cfg0.N, ¬cond0_0 (grid0.coords t) → ¬cond0_1 (grid0.coords t) → (cfg0.win 3).flush t = false := by decide +kernel
/-- At the points of case C `Cfg.idle` calls output 3 live: the case stores into it. -/
theorem liveAt0_3_C : ∀ t : Fin cfg0.N, ¬cond0_0 (grid0.coords t) → cond0_1 (grid0.coords t) → cfg0.idle 3 (grid0.coords t) = false := by decide +kernel
/-- At the points of case A `Cfg.idle` calls output 4 idle: the case stores nothing into it. -/
theorem idleAt0_4_A : ∀ t : Fin cfg0.N, cond0_0 (grid0.coords t) → ¬cond0_1 (grid0.coords t) → cfg0.idle 4 (grid0.coords t) = true := by decide +kernel
/-- At the points of case A the pipeline does not write output 4's block back. -/
theorem noFlush0_4_A : ∀ t : Fin cfg0.N, cond0_0 (grid0.coords t) → ¬cond0_1 (grid0.coords t) → (cfg0.win 4).flush t = false := by decide +kernel
/-- At the points of case B `Cfg.idle` calls output 4 idle: the case stores nothing into it. -/
theorem idleAt0_4_B : ∀ t : Fin cfg0.N, ¬cond0_0 (grid0.coords t) → ¬cond0_1 (grid0.coords t) → cfg0.idle 4 (grid0.coords t) = true := by decide +kernel
/-- At the points of case B the pipeline does not write output 4's block back. -/
theorem noFlush0_4_B : ∀ t : Fin cfg0.N, ¬cond0_0 (grid0.coords t) → ¬cond0_1 (grid0.coords t) → (cfg0.win 4).flush t = false := by decide +kernel
/-- At the points of case C `Cfg.idle` calls output 4 live: the case stores into it. -/
theorem liveAt0_4_C : ∀ t : Fin cfg0.N, ¬cond0_0 (grid0.coords t) → cond0_1 (grid0.coords t) → cfg0.idle 4 (grid0.coords t) = false := by decide +kernel

/-! ## The kernel body on any staging memrefs: a subtype the run finds -/

/-- One staging buffer of output window 2, through which its contents are stated (`View.read_writes_of_cover`: the
    choice does not matter). -/
abbrev VO0_2 : View sig .tc .vmem S256x128 .f32 := (Memref.whole cc0_stg2_0 : Memref sig .tc .vmem S256x128 .f32).view
/-- One staging buffer of output window 3, through which its contents are stated (`View.read_writes_of_cover`: the
    choice does not matter). -/
abbrev VO0_3 : View sig .tc .smem S1x1 .f32 := (Memref.whole cc0_stg3_0 : Memref sig .tc .smem S1x1 .f32).view
/-- One staging buffer of output window 4, through which its contents are stated (`View.read_writes_of_cover`: the
    choice does not matter). -/
abbrev VO0_4 : View sig .tc .smem S1x1 .f32 := (Memref.whole cc0_stg4_0 : Memref sig .tc .smem S1x1 .f32).view
/-- Each window's current staging memref at point `t`, spelled as the pipeline passes it (`bodyAt0`), and its wholeness. -/
abbrev ms0_0 (t : Fin cfg0.N) : Memref sig .tc .vmem S256x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x7168 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S1x1 .f32 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S8x7168 .f32 := Memref.whole cc0_scratch0
/-- The scratch `arg6` the kernel carries between points, as a view: what it holds is stated through it. -/
abbrev VS0_0 : View sig .tc .vmem S8x7168 .f32 := scM0_0.view

/-- The frame invariant with the scratch operands as memrefs owned at some contents (`scopedRest0_eq`,
    `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (3, 4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the functions are their skeletons
    (`*_eq_skeleton`), which `sl_exec` runs — each `scf.if` decided by the case's hypotheses `hc·`; the pieces are
    the witness that run finds (assigned when `iexact` hands the buffer to the continuation). -/
noncomputable def kernelRun0_A (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : cond0_0 i) (hc1 : ¬cond0_1 i)
    (x0 : Vec F S256x7168 .bf16) (x1 : Vec F S1x7168 .bf16) :
    Σ' (L2 : List (View.Piece (Elt F) S256x128 .f32)), Σ' (L3 : List (View.Piece (Elt F) S1x1 .f32)), Σ' (L4 : List (View.Piece (Elt F) S1x1 .f32)), { LS0 : List (View.Piece (Elt F) S8x7168 .f32) //
      ∀ (xi3 : Vec F S1x1 .f32) (xi4 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_stats i arg1 harg1 arg2 harg2 arg3 harg3 arg4 harg4 arg5 harg5 arg6 harg6) K } := by
  refine ⟨?_, [], [], ?_, fun xi3 xi4 E K => ?run⟩
  case run =>
    simp only [cc0_stats_eq_skeleton]; unfold cc0_stats_skel
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    iexists _; iexact HS0

/-- Case A's pieces for output 2 tile its block (1 store of `S256x128`, checked by evaluating `Piece.tiledL`), so they cover it. -/
theorem cover0_A_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : cond0_0 i) (hc1 : ¬cond0_1 i)
    (x0 : Vec F S256x7168 .bf16) (x1 : Vec F S1x7168 .bf16) (y : S256x128.Idx) :
    ∃ pc ∈ (kernelRun0_A c i arg1 harg1 arg2 harg2 arg3 harg3 arg4 harg4 arg5 harg5 arg6 harg6 hc0 hc1 x0 x1).1, y ∈ pc.1.set :=
  View.cover_of_tiledL (kernelRun0_A c i arg1 harg1 arg2 harg2 arg3 harg3 arg4 harg4 arg5 harg5 arg6 harg6 hc0 hc1 x0 x1).1 S256x128.size (by sl_kernel_rfl) y

/-- What case A leaves in output 2's staging buffer: its pieces read back over junk. -/
def out0_A_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : cond0_0 i) (hc1 : ¬cond0_1 i)
    (x0 : Vec F S256x7168 .bf16) (x1 : Vec F S1x7168 .bf16) : Vec F S256x128 .f32 :=
  VO0_2.read (Elt F) (VO0_2.writes (Elt F) VO0_2.junk (kernelRun0_A c i arg1 harg1 arg2 harg2 arg3 harg3 arg4 harg4 arg5 harg5 arg6 harg6 hc0 hc1 x0 x1).1)

/-- Case A stores nothing into output 3 (the window is idle at its points and not written back there):
    no pieces — a placeholder (junk read back) that nothing consults, since at these points the window is neither
    written back nor read at the next point. -/
def out0_A_3 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : cond0_0 i) (hc1 : ¬cond0_1 i)
    (x0 : Vec F S256x7168 .bf16) (x1 : Vec F S1x7168 .bf16) : Vec F S1x1 .f32 :=
  VO0_3.read (Elt F) (VO0_3.writes (Elt F) VO0_3.junk (kernelRun0_A c i arg1 harg1 arg2 harg2 arg3 harg3 arg4 harg4 arg5 harg5 arg6 harg6 hc0 hc1 x0 x1).2.1)

/-- Case A stores nothing into output 4 (the window is idle at its points and not written back there):
    no pieces — a placeholder (junk read back) that nothing consults, since at these points the window is neither
    written back nor read at the next point. -/
def out0_A_4 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : cond0_0 i) (hc1 : ¬cond0_1 i)
    (x0 : Vec F S256x7168 .bf16) (x1 : Vec F S1x7168 .bf16) : Vec F S1x1 .f32 :=
  VO0_4.read (Elt F) (VO0_4.writes (Elt F) VO0_4.junk (kernelRun0_A c i arg1 harg1 arg2 harg2 arg3 harg3 arg4 harg4 arg5 harg5 arg6 harg6 hc0 hc1 x0 x1).2.2.1)

/-- Case A's pieces for scratch `arg6`, which the kernel carries between points, cover it: 2 pieces of `S8x7168` tiling it (`Piece.tiledL`). -/
theorem scover0_A_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : cond0_0 i) (hc1 : ¬cond0_1 i)
    (x0 : Vec F S256x7168 .bf16) (x1 : Vec F S1x7168 .bf16) (y : S8x7168.Idx) :
    ∃ pc ∈ (kernelRun0_A c i arg1 harg1 arg2 harg2 arg3 harg3 arg4 harg4 arg5 harg5 arg6 harg6 hc0 hc1 x0 x1).2.2.2.1, y ∈ pc.1.set :=
  View.cover_of_tiledL (kernelRun0_A c i arg1 harg1 arg2 harg2 arg3 harg3 arg4 harg4 arg5 harg5 arg6 harg6 hc0 hc1 x0 x1).2.2.2.1 S8x7168.size (by sl_kernel_rfl) y

/-- What case A leaves in scratch `arg6`: its pieces read back over junk. -/
def sout0_A_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : cond0_0 i) (hc1 : ¬cond0_1 i)
    (x0 : Vec F S256x7168 .bf16) (x1 : Vec F S1x7168 .bf16) : Vec F S8x7168 .f32 :=
  VS0_0.read (Elt F) (VS0_0.writes (Elt F) VS0_0.junk (kernelRun0_A c i arg1 harg1 arg2 harg2 arg3 harg3 arg4 harg4 arg5 harg5 arg6 harg6 hc0 hc1 x0 x1).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 62: 62 of 64), WITH the
    proof that on whole staging memrefs — the inputs' at their contents, the outputs it leaves idle (3, 4: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the functions are their skeletons
    (`*_eq_skeleton`), which `sl_exec` runs — each `scf.if` decided by the case's hypotheses `hc·`; the pieces are
    the witness that run finds (assigned when `iexact` hands the buffer to the continuation). -/
noncomputable def kernelRun0_B (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : ¬cond0_1 i)
    (x0 : Vec F S256x7168 .bf16) (x1 : Vec F S1x7168 .bf16) (xs0 : Vec F S8x7168 .f32) :
    Σ' (L2 : List (View.Piece (Elt F) S256x128 .f32)), Σ' (L3 : List (View.Piece (Elt F) S1x1 .f32)), Σ' (L4 : List (View.Piece (Elt F) S1x1 .f32)), { LS0 : List (View.Piece (Elt F) S8x7168 .f32) //
      ∀ (xi3 : Vec F S1x1 .f32) (xi4 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc0_stats i arg1 harg1 arg2 harg2 arg3 harg3 arg4 harg4 arg5 harg5 arg6 harg6) K } := by
  refine ⟨?_, [], [], ?_, fun xi3 xi4 E K => ?run⟩
  case run =>
    simp only [cc0_stats_eq_skeleton]; unfold cc0_stats_skel
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, Hk⟩
    obtain rfl := harg1.eq_unread hf0; obtain rfl := harg2.eq_unread hf1; obtain rfl := harg4.eq_unread hf3; obtain rfl := harg5.eq_unread hf4; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    isplitl [H4]
    · iexists _; isplitr; · ipureintro; exact harg5.read_unread _
      iexact H4
    iexists _; iexact HS0

/-- Case B's pieces for output 2 tile its block (1 store of `S256x128`, checked by evaluating `Piece.tiledL`), so they cover it. -/
theorem cover0_B_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : ¬cond0_1 i)
    (x0 : Vec F S256x7168 .bf16) (x1 : Vec F S1x7168 .bf16) (xs0 : Vec F S8x7168 .f32) (y : S256x128.Idx) :
    ∃ pc ∈ (kernelRun0_B c i arg1 harg1 arg2 harg2 arg3 harg3 arg4 harg4 arg5 harg5 arg6 harg6 hc0 hc1 x0 x1 xs0).1, y ∈ pc.1.set :=
  View.cover_of_tiledL (kernelRun0_B c i arg1 harg1 arg2 harg2 arg3 harg3 arg4 harg4 arg5 harg5 arg6 harg6 hc0 hc1 x0 x1 xs0).1 S256x128.size (by sl_kernel_rfl) y

/-- What case B leaves in output 2's staging buffer: its pieces read back over junk. -/
def out0_B_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : ¬cond0_1 i)
    (x0 : Vec F S256x7168 .bf16) (x1 : Vec F S1x7168 .bf16) (xs0 : Vec F S8x7168 .f32) : Vec F S256x128 .f32 :=
  VO0_2.read (Elt F) (VO0_2.writes (Elt F) VO0_2.junk (kernelRun0_B c i arg1 harg1 arg2 harg2 arg3 harg3 arg4 harg4 arg5 harg5 arg6 harg6 hc0 hc1 x0 x1 xs0).1)

/-- Case B stores nothing into output 3 (the window is idle at its points and not written back there):
    no pieces — a placeholder (junk read back) that nothing consults, since at these points the window is neither
    written back nor read at the next point. -/
def out0_B_3 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : ¬cond0_1 i)
    (x0 : Vec F S256x7168 .bf16) (x1 : Vec F S1x7168 .bf16) (xs0 : Vec F S8x7168 .f32) : Vec F S1x1 .f32 :=
  VO0_3.read (Elt F) (VO0_3.writes (Elt F) VO0_3.junk (kernelRun0_B c i arg1 harg1 arg2 harg2 arg3 harg3 arg4 harg4 arg5 harg5 arg6 harg6 hc0 hc1 x0 x1 xs0).2.1)

/-- Case B stores nothing into output 4 (the window is idle at its points and not written back there):
    no pieces — a placeholder (junk read back) that nothing consults, since at these points the window is neither
    written back nor read at the next point. -/
def out0_B_4 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : ¬cond0_1 i)
    (x0 : Vec F S256x7168 .bf16) (x1 : Vec F S1x7168 .bf16) (xs0 : Vec F S8x7168 .f32) : Vec F S1x1 .f32 :=
  VO0_4.read (Elt F) (VO0_4.writes (Elt F) VO0_4.junk (kernelRun0_B c i arg1 harg1 arg2 harg2 arg3 harg3 arg4 harg4 arg5 harg5 arg6 harg6 hc0 hc1 x0 x1 xs0).2.2.1)

/-- Case B's pieces for scratch `arg6`, which the kernel carries between points, cover it: 1 piece of `S8x7168` tiling it (`Piece.tiledL`). -/
theorem scover0_B_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : ¬cond0_1 i)
    (x0 : Vec F S256x7168 .bf16) (x1 : Vec F S1x7168 .bf16) (xs0 : Vec F S8x7168 .f32) (y : S8x7168.Idx) :
    ∃ pc ∈ (kernelRun0_B c i arg1 harg1 arg2 harg2 arg3 harg3 arg4 harg4 arg5 harg5 arg6 harg6 hc0 hc1 x0 x1 xs0).2.2.2.1, y ∈ pc.1.set :=
  View.cover_of_tiledL (kernelRun0_B c i arg1 harg1 arg2 harg2 arg3 harg3 arg4 harg4 arg5 harg5 arg6 harg6 hc0 hc1 x0 x1 xs0).2.2.2.1 S8x7168.size (by sl_kernel_rfl) y

/-- What case B leaves in scratch `arg6`: its pieces read back over junk. -/
def sout0_B_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : ¬cond0_1 i)
    (x0 : Vec F S256x7168 .bf16) (x1 : Vec F S1x7168 .bf16) (xs0 : Vec F S8x7168 .f32) : Vec F S8x7168 .f32 :=
  VS0_0.read (Elt F) (VS0_0.writes (Elt F) VS0_0.junk (kernelRun0_B c i arg1 harg1 arg2 harg2 arg3 harg3 arg4 harg4 arg5 harg5 arg6 harg6 hc0 hc1 x0 x1 xs0).2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 63), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the functions are their skeletons
    (`*_eq_skeleton`), which `sl_exec` runs — each `scf.if` decided by the case's hypotheses `hc·`; the pieces are
    the witness that run finds (assigned when `iexact` hands the buffer to the continuation). -/
noncomputable def kernelRun0_C (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) :
    Σ' (L2 : List (View.Piece (Elt F) S256x128 .f32)), Σ' (L3 : List (View.Piece (Elt F) S1x1 .f32)), Σ' (L4 : List (View.Piece (Elt F) S1x1 .f32)), { LS0 : List (View.Piece (Elt F) S8x7168 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_stats i arg1 harg1 arg2 harg2 arg3 harg3 arg4 harg4 arg5 harg5 arg6 harg6) K } := by
  refine ⟨?_, ?_, ?_, ?_, fun E K => ?run⟩
  case run =>
    simp only [cc0_stats_eq_skeleton]; unfold cc0_stats_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, Hk⟩
    obtain rfl := harg1.eq_unread hf0; obtain rfl := harg2.eq_unread hf1; obtain rfl := harg6.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact HS0

/-- Case C's pieces for output 2 tile its block (1 store of `S256x128`, checked by evaluating `Piece.tiledL`), so they cover it. -/
theorem cover0_C_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) (y : S256x128.Idx) :
    ∃ pc ∈ (kernelRun0_C c i arg1 harg1 arg2 harg2 arg3 harg3 arg4 harg4 arg5 harg5 arg6 harg6 hc0 hc1 x0 x1 xs0).1, y ∈ pc.1.set :=
  View.cover_of_tiledL (kernelRun0_C c i arg1 harg1 arg2 harg2 arg3 harg3 arg4 harg4 arg5 harg5 arg6 harg6 hc0 hc1 x0 x1 xs0).1 S256x128.size (by sl_kernel_rfl) y

/-- What case C leaves in output 2's staging buffer: its pieces read back over junk. -/
def out0_C_2 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) : Vec F S256x128 .f32 :=
  VO0_2.read (Elt F) (VO0_2.writes (Elt F) VO0_2.junk (kernelRun0_C c i arg1 harg1 arg2 harg2 arg3 harg3 arg4 harg4 arg5 harg5 arg6 harg6 hc0 hc1 x0 x1 xs0).1)

/-- Case C's pieces for output 3 tile its block (1 store of `S1x1`, checked by evaluating `Piece.tiledL`), so they cover it. -/
theorem cover0_C_3 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) (y : S1x1.Idx) :
    ∃ pc ∈ (kernelRun0_C c i arg1 harg1 arg2 harg2 arg3 harg3 arg4 harg4 arg5 harg5 arg6 harg6 hc0 hc1 x0 x1 xs0).2.1, y ∈ pc.1.set :=
  View.cover_of_tiledL (kernelRun0_C c i arg1 harg1 arg2 harg2 arg3 harg3 arg4 harg4 arg5 harg5 arg6 harg6 hc0 hc1 x0 x1 xs0).2.1 S1x1.size (by sl_kernel_rfl) y

/-- What case C leaves in output 3's staging buffer: its pieces read back over junk. -/
def out0_C_3 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) : Vec F S1x1 .f32 :=
  VO0_3.read (Elt F) (VO0_3.writes (Elt F) VO0_3.junk (kernelRun0_C c i arg1 harg1 arg2 harg2 arg3 harg3 arg4 harg4 arg5 harg5 arg6 harg6 hc0 hc1 x0 x1 xs0).2.1)

/-- Case C's pieces for output 4 tile its block (1 store of `S1x1`, checked by evaluating `Piece.tiledL`), so they cover it. -/
theorem cover0_C_4 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) (y : S1x1.Idx) :
    ∃ pc ∈ (kernelRun0_C c i arg1 harg1 arg2 harg2 arg3 harg3 arg4 harg4 arg5 harg5 arg6 harg6 hc0 hc1 x0 x1 xs0).2.2.1, y ∈ pc.1.set :=
  View.cover_of_tiledL (kernelRun0_C c i arg1 harg1 arg2 harg2 arg3 harg3 arg4 harg4 arg5 harg5 arg6 harg6 hc0 hc1 x0 x1 xs0).2.2.1 S1x1.size (by sl_kernel_rfl) y

/-- What case C leaves in output 4's staging buffer: its pieces read back over junk. -/
def out0_C_4 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) : Vec F S1x1 .f32 :=
  VO0_4.read (Elt F) (VO0_4.writes (Elt F) VO0_4.junk (kernelRun0_C c i arg1 harg1 arg2 harg2 arg3 harg3 arg4 harg4 arg5 harg5 arg6 harg6 hc0 hc1 x0 x1 xs0).2.2.1)

/-- Case C's pieces for scratch `arg6`, which the kernel carries between points, cover it: 1 piece of `S8x7168` tiling it (`Piece.tiledL`). -/
theorem scover0_C_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) (y : S8x7168.Idx) :
    ∃ pc ∈ (kernelRun0_C c i arg1 harg1 arg2 harg2 arg3 harg3 arg4 harg4 arg5 harg5 arg6 harg6 hc0 hc1 x0 x1 xs0).2.2.2.1, y ∈ pc.1.set :=
  View.cover_of_tiledL (kernelRun0_C c i arg1 harg1 arg2 harg2 arg3 harg3 arg4 harg4 arg5 harg5 arg6 harg6 hc0 hc1 x0 x1 xs0).2.2.2.1 S8x7168.size (by sl_kernel_rfl) y

/-- What case C leaves in scratch `arg6`: its pieces read back over junk. -/
def sout0_C_0 (c : Dev nD) (i : grid0.Coords) (arg1 : Memref sig .tc .vmem S256x7168 .bf16) (harg1 : arg1.IsWhole) (arg2 : Memref sig .tc .vmem S1x7168 .bf16) (harg2 : arg2.IsWhole) (arg3 : Memref sig .tc .vmem S256x128 .f32) (harg3 : arg3.IsWhole) (arg4 : Memref sig .tc .smem S1x1 .f32) (harg4 : arg4.IsWhole) (arg5 : Memref sig .tc .smem S1x1 .f32) (harg5 : arg5.IsWhole) (arg6 : Memref sig .tc .vmem S8x7168 .f32) (harg6 : arg6.IsWhole) (hc0 : ¬cond0_0 i) (hc1 : cond0_1 i)
    (x0 : Vec F S256x7168 .bf16) (x1 : Vec F S1x7168 .bf16) (xs0 : Vec F S8x7168 .f32) : Vec F S8x7168 .f32 :=
  VS0_0.read (Elt F) (VS0_0.writes (Elt F) VS0_0.junk (kernelRun0_C c i arg1 harg1 arg2 harg2 arg3 harg3 arg4 harg4 arg5 harg5 arg6 harg6 hc0 hc1 x0 x1 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x128 .f32 × Vec F S1x1 .f32 × Vec F S1x1 .f32 × Vec F S8x7168 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 64 = 63 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2)

/-- `outsAt0` at a point of case A: that case's contents. -/
theorem outsAt0_A (c : Dev nD) (t : Fin cfg0.N) (h0 : t.val % 64 = 0) (h1 : ¬t.val % 64 = 63) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 64 = 0) (h1 : ¬t.val % 64 = 63) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 64 = 63) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point
    `ΦA` (every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2.2.2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.2) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg1_0), ((c : Thread nD τ).loc cc2_stg1_0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant
    (`PhiS`: `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold out0_A_2 sout0_A_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t)).2.2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        iintro ⟨H0, H1, ⟨%e2, H2⟩, H3, H4, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _)
        isplitl [H3]; · iexists _; iexact H3
        iexists _; iexact H4
      · exfalso; have hN : t.val < 64 := lt_of_lt_of_eq t.isLt (show cfg0.N = 64 from N_0); omega
  · by_cases h1 : t.val % 64 = 63
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1)], after0_3]
      rw [show (dat0 V c).leavesExact 4 t = owns (c : Thread nD τ) (ms0_4 t) fullShare ((dat0 V c).after 4 t) from by
      unfold Dat.leavesExact; rw [liveAt0_4_C t (fun h => h0 ((hcond0_0 t).mp h)) ((hcond0_1 t).mpr h1)], after0_4]
      by_cases hz : t.val = 0
      · exfalso; have hN : t.val < 64 := lt_of_lt_of_eq t.isLt (show cfg0.N = 64 from N_0); omega
      · rw [PhiS_castSucc V c t, PhiS_pos V c _ _ hz]
        rw [outsAt0_C V c t h0 h1]
        unfold out0_C_2 out0_C_3 out0_C_4 sout0_C_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) _).2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        iintro ⟨H0, H1, ⟨%e2, H2⟩, ⟨%e3, H3⟩, ⟨%e4, H4⟩, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_C_0 c _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      by_cases hz : t.val = 0
      · exfalso; have hN : t.val < 64 := lt_of_lt_of_eq t.isLt (show cfg0.N = 64 from N_0); omega
      · rw [PhiS_castSucc V c t, PhiS_pos V c _ _ hz]
        rw [outsAt0_B V c t h0 h1]
        unfold out0_B_2 sout0_B_0; (try dsimp only)
        iintro ⟨⟨⟨HS0, HR1, HR2, HR3, HR4, HR5, HR6, HR7, HR8, HR9, HR10, HR11, HR12, HR13, HR14, HR15, HR16⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) _).2.2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        iintro ⟨H0, H1, ⟨%e2, H2⟩, H3, H4, ⟨%es0, HS0⟩⟩
        isplitl [HS0 HR1 HR2 HR3 HR4 HR5 HR6 HR7 HR8 HR9 HR10 HR11 HR12 HR13 HR14 HR15 HR16 Hg]
        · isplitl [HS0 HR1 HR2 HR3 HR4 HR5 HR6 HR7 HR8 HR9 HR10 HR11 HR12 HR13 HR14 HR15 HR16]
          · isplitl [HS0]
            · unfold owns; iexists _; isplitr
              swap; · iexact HS0
              ipureintro; exact View.read_writes_of_cover _ _ _ _ _ (scover0_B_0 c _ _ _ _ _ _ _ _ _ _ _ _ _ _ _ _ _ _)
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            isplitl [HR14]
            · iexact HR14
            isplitl [HR15]
            · iexact HR15
            iexact HR16
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _)
        isplitl [H3]; · iexists _; iexact H3
        iexists _; iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HR1, HR2, HR3, HR4, HR5, HR6, HR7, HR8, HR9, HR10, HR11, HR12, HR13, HR14, HR15, HR16⟩, Hg⟩
  isplitl [HS0 HR1 HR2 HR3 HR4 HR5 HR6 HR7 HR8 HR9 HR10 HR11 HR12 HR13 HR14 HR15 HR16]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    iexact HR16
  iexact Hg

/-- The same after the last point. -/
theorem hout (c : Dev nD) : (dat0 V c).Φ (Fin.last cfg0.N) ⊢ Pipeline.ΦA spec0 c :=
  Phi_out V c _ (by rw [Fin.val_last]; have : cfg0.N = 64 := N_0; omega)

end Cert.KernelIdeal.Whole

end
-- ==== Proof.Whole.Quant.lean ====
/-
  The second call (`_quant`): its body's run at each grid point, the buffer it leaves, and its triple, at the buffer
  contents `V` with which the call is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
-- the buffer contents with which the call is entered
variable (V : (c : Dev nD) → (b : Ref sig .tc) → Buf (Elt F) ((c : Thread nD τ).loc b))

/-! # REGION 1 of @main: custom_call 1, `cc1_quant` (pipeline 1) -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): by
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): by
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): by
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): by
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S256x7168 .fp8e4m3 := (Memref.whole cc1_stg4_0 : Memref sig .tc .vmem S256x7168 .fp8e4m3).view
/-- Each window's current staging memref at point `t`, spelled as the pipeline passes it (`bodyAt1`), and its wholeness. -/
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x7168 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x7168 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x7168 .fp8e4m3 := win1_4.stage (cfg1.slots t 4)
abbrev hs1_4 (t : Fin cfg1.N) : (ms1_4 t).IsWhole := hstage1_4 ((cfg1.slots t 4).cast nbuf1_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the functions are their skeletons
    (`*_eq_skeleton`), which `sl_exec` runs; the pieces are
    the witness that run finds (assigned when `iexact` hands the buffer to the continuation). -/
noncomputable def kernelRun1_A (c : Dev nD) (i : grid1.Coords) (arg1 : Memref sig .tc .smem S1x1 .f32) (harg1 : arg1.IsWhole) (arg2 : Memref sig .tc .vmem S256x7168 .bf16) (harg2 : arg2.IsWhole) (arg3 : Memref sig .tc .vmem S1x7168 .bf16) (harg3 : arg3.IsWhole) (arg4 : Memref sig .tc .vmem S256x128 .f32) (harg4 : arg4.IsWhole) (arg5 : Memref sig .tc .vmem S256x7168 .fp8e4m3) (harg5 : arg5.IsWhole)
    (x0 : Vec F S1x1 .f32) (x1 : Vec F S256x7168 .bf16) (x2 : Vec F S1x7168 .bf16) (x3 : Vec F S256x128 .f32) :
    { L4 : List (View.Piece (Elt F) S256x7168 .fp8e4m3) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4)) -∗ K ⟨⟩))
          ⊢ wp frame (wpE (defs₀ (F := F)) Variants.none c none) E (cc1_quant i arg1 harg1 arg2 harg2 arg3 harg3 arg4 harg4 arg5 harg5) K } := by
  refine ⟨?_, fun E K => ?run⟩
  case run =>
    simp only [cc1_quant_eq_skeleton]; unfold cc1_quant_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

/-- The run's pieces for output 4 tile its block (1 store of `S256x7168`, checked by evaluating `Piece.tiledL`), so they cover it. -/
theorem cover1_A_4 (c : Dev nD) (i : grid1.Coords) (arg1 : Memref sig .tc .smem S1x1 .f32) (harg1 : arg1.IsWhole) (arg2 : Memref sig .tc .vmem S256x7168 .bf16) (harg2 : arg2.IsWhole) (arg3 : Memref sig .tc .vmem S1x7168 .bf16) (harg3 : arg3.IsWhole) (arg4 : Memref sig .tc .vmem S256x128 .f32) (harg4 : arg4.IsWhole) (arg5 : Memref sig .tc .vmem S256x7168 .fp8e4m3) (harg5 : arg5.IsWhole)
    (x0 : Vec F S1x1 .f32) (x1 : Vec F S256x7168 .bf16) (x2 : Vec F S1x7168 .bf16) (x3 : Vec F S256x128 .f32) (y : S256x7168.Idx) :
    ∃ pc ∈ (kernelRun1_A c i arg1 harg1 arg2 harg2 arg3 harg3 arg4 harg4 arg5 harg5 x0 x1 x2 x3).1, y ∈ pc.1.set :=
  View.cover_of_tiledL (kernelRun1_A c i arg1 harg1 arg2 harg2 arg3 harg3 arg4 harg4 arg5 harg5 x0 x1 x2 x3).1 S256x7168.size (by sl_kernel_rfl) y

/-- What the run leaves in output 4's staging buffer: its pieces read back over junk. -/
def out1_A_4 (c : Dev nD) (i : grid1.Coords) (arg1 : Memref sig .tc .smem S1x1 .f32) (harg1 : arg1.IsWhole) (arg2 : Memref sig .tc .vmem S256x7168 .bf16) (harg2 : arg2.IsWhole) (arg3 : Memref sig .tc .vmem S1x7168 .bf16) (harg3 : arg3.IsWhole) (arg4 : Memref sig .tc .vmem S256x128 .f32) (harg4 : arg4.IsWhole) (arg5 : Memref sig .tc .vmem S256x7168 .fp8e4m3) (harg5 : arg5.IsWhole)
    (x0 : Vec F S1x1 .f32) (x1 : Vec F S256x7168 .bf16) (x2 : Vec F S1x7168 .bf16) (x3 : Vec F S256x128 .f32) : Vec F S256x7168 .fp8e4m3 :=
  VO1_4.read (Elt F) (VO1_4.writes (Elt F) VO1_4.junk (kernelRun1_A c i arg1 harg1 arg2 harg2 arg3 harg3 arg4 harg4 arg5 harg5 x0 x1 x2 x3).1)

/-! ## What the outputs hold after each point -/

/-- What the outputs' staging buffers hold after the body at point `t`: the run's contents at
    the point's memrefs and input blocks. -/
def outsAt1 (c : Dev nD) (t : Fin cfg1.N) : Vec F S256x7168 .fp8e4m3 :=
  out1_A_4 c (grid1.coords t) (ms1_0 t) (hs1_0 t) (ms1_1 t) (hs1_1 t) (ms1_2 t) (hs1_2 t) (ms1_3 t) (hs1_3 t) (ms1_4 t) (hs1_4 t) (iblk1 V c 0 t) (iblk1 V c 1 t) (iblk1 V c 2 t) (iblk1 V c 3 t)

/-! ## The pipeline's proof data -/

/-- The proof data of pipeline 1 on core `c`: the arrays as the region finds them (`V`); after the body at
    point `t` each input's buffer at its block and the outputs' at `outsAt1`; the invariant `ΦA`
    (the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  unfold outsAt1
  unfold out1_A_4
  iintro ⟨HΦ, Ho, ⟨%d0, H0⟩, ⟨%d1, H1⟩, ⟨%d2, H2⟩, ⟨%d3, H3⟩, ⟨%d4, H4⟩⟩
  iapply ((kernelRun1_A c (grid1.coords t) _ _ _ _ _ _ _ _ _ _ (iblk1 V c 0 t) (iblk1 V c 1 t) (iblk1 V c 2 t) (iblk1 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover1_A_4 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.Whole.Product.lean ====
/-
  The third call (`_mm`): its body's run at each grid point, the buffer it leaves, and its triple, at the buffer
  contents `V` with which the call is entered.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
-- the buffer contents with which the call is entered
variable (V : (c : Dev nD) → (b : Ref sig .tc) → Buf (Elt F) ((c : Thread nD τ).loc b))

/-! # REGION 2 of @main: custom_call 2, `cc2_mm` (pipeline 2) -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): by
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): by
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): by
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): by
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 4, through which its contents are stated (`View.read_writes_of_cover`: the
    choice does not matter). -/
abbrev VO2_4 : View sig .tc .vmem S1024x1024 .bf16 := (Memref.whole cc2_stg4_0 : Memref sig .tc .vmem S1024x1024 .bf16).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .smem S1x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x7168 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S7168x1024 .fp8e4m3 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x1024 .bf16 := win2_4.stage (cfg2.slots t 4)
abbrev hs2_4 (t : Fin cfg2.N) : (ms2_4 t).IsWhole := hstage2_4 ((cfg2.slots t 4).cast nbuf2_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the functions are their skeletons
    (`*_eq_skeleton`), which `sl_exec` runs; the pieces are
    the witness that run finds (assigned when `iexact` hands the buffer to the continuation). -/
noncomputable def kernelRun2_A (c : Dev nD) (i : grid2.Coords) (arg2 : Memref sig .tc .smem S1x1 .f32) (harg2 : arg2.IsWhole) (arg3 : Memref sig .tc .smem S1x1 .f32) (harg3 : arg3.IsWhole) (arg4 : Memref sig .tc .vmem S1024x7168 .fp8e4m3) (harg4 : arg4.IsWhole) (arg5 : Memref sig .tc .vmem S7168x1024 .fp8e4m3) (harg5 : arg5.IsWhole) (arg6 : Memref sig .tc .vmem S1024x1024 .bf16) (harg6 : arg6.IsWhole)
    (x0 : Vec F S1x1 .f32) (x1 : Vec F S1x1 .f32) (x2 : Vec F S1024x7168 .fp8e4m3) (x3 : Vec F S7168x1024 .fp8e4m3) :
    { L4 : List (View.Piece (Elt F) S1024x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc2_mm i arg2 harg2 arg3 harg3 arg4 harg4 arg5 harg5 arg6 harg6) K } := by
  refine ⟨?_, fun E K => ?run⟩
  case run =>
    simp only [cc2_mm_eq_skeleton]; unfold cc2_mm_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

/-- The run's pieces for output 4 tile its block (1 store of `S1024x1024`, checked by evaluating `Piece.tiledL`), so they cover it. -/
theorem cover2_A_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S1024x7168 .fp8e4m3) (harg4 : arg4.IsWhole) (arg5 : Memref sig .tc .vmem S7168x1024 .fp8e4m3) (harg5 : arg5.IsWhole) (arg6 : Memref sig .tc .vmem S1024x1024 .bf16) (harg6 : arg6.IsWhole)
    (x0 : Vec F S1x1 .f32) (x1 : Vec F S1x1 .f32) (x2 : Vec F S1024x7168 .fp8e4m3) (x3 : Vec F S7168x1024 .fp8e4m3) (y : S1024x1024.Idx) :
    ∃ pc ∈ (kernelRun2_A c i arg2 harg2 arg3 harg3 arg4 harg4 arg5 harg5 arg6 harg6 x0 x1 x2 x3).1, y ∈ pc.1.set :=
  View.cover_of_tiledL (kernelRun2_A c i arg2 harg2 arg3 harg3 arg4 harg4 arg5 harg5 arg6 harg6 x0 x1 x2 x3).1 S1024x1024.size (by sl_kernel_rfl) y

/-- What the run leaves in output 4's staging buffer: its pieces read back over junk. -/
def out2_A_4 (c : Dev nD) (i : grid2.Coords) (arg2 : Memref sig .tc .smem S1x1 .f32) (harg2 : arg2.IsWhole) (arg3 : Memref sig .tc .smem S1x1 .f32) (harg3 : arg3.IsWhole) (arg4 : Memref sig .tc .vmem S1024x7168 .fp8e4m3) (harg4 : arg4.IsWhole) (arg5 : Memref sig .tc .vmem S7168x1024 .fp8e4m3) (harg5 : arg5.IsWhole) (arg6 : Memref sig .tc .vmem S1024x1024 .bf16) (harg6 : arg6.IsWhole)
    (x0 : Vec F S1x1 .f32) (x1 : Vec F S1x1 .f32) (x2 : Vec F S1024x7168 .fp8e4m3) (x3 : Vec F S7168x1024 .fp8e4m3) : Vec F S1024x1024 .bf16 :=
  VO2_4.read (Elt F) (VO2_4.writes (Elt F) VO2_4.junk (kernelRun2_A c i arg2 harg2 arg3 harg3 arg4 harg4 arg5 harg5 arg6 harg6 x0 x1 x2 x3).1)

/-! ## What the outputs hold after each point -/

/-- What the outputs' staging buffers hold after the body at point `t`: the run's contents at
    the point's memrefs and input blocks. -/
def outsAt2 (c : Dev nD) (t : Fin cfg2.N) : Vec F S1024x1024 .bf16 :=
  out2_A_4 c (grid2.coords t) (ms2_0 t) (hs2_0 t) (ms2_1 t) (hs2_1 t) (ms2_2 t) (hs2_2 t) (ms2_3 t) (hs2_3 t) (ms2_4 t) (hs2_4 t) (iblk2 V c 0 t) (iblk2 V c 1 t) (iblk2 V c 2 t) (iblk2 V c 3 t)

/-! ## The pipeline's proof data -/

/-- The proof data of pipeline 2 on core `c`: the arrays as the region finds them (`V`); after the body at
    point `t` each input's buffer at its block and the outputs' at `outsAt2`; the invariant `ΦA`
    (the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t` (`BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

/-- The body at any point: the inputs' memrefs hold their blocks (`before2_W`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold outsAt2
  unfold out2_A_4
  iintro ⟨HΦ, Ho, ⟨%d0, H0⟩, ⟨%d1, H1⟩, ⟨%d2, H2⟩, ⟨%d3, H3⟩, ⟨%d4, H4⟩⟩
  iapply ((kernelRun2_A c (grid2.coords t) _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2_A_4 c _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (`triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.Whole.Run.lean ====
/-
  The run of the whole program: the buffer contents at every boundary between host operations and calls (`W0` to `W6`),
  and from them what every final state holds.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Whole.Stats
public import proofs.«01_k».proof.Proof.Whole.Quant
public import proofs.«01_k».proof.Proof.Whole.Product
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-! # THE RUN: @main's segments from the launch to the return (`θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch
    (`after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v6, main_v7, main_v8]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (`withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered, each output's write-backs
    folded: `Dat.arrAt … N`), every other buffer as entered (`withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that
    `Pipeline.pin pcfgs adm p` at a numeral reduces to the configuration itself. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the
    invariant `ΦA` takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    have h := hout (V1 m ρ) c
    unfold Pipeline.ΦA at h
    rw [Pipeline.ownSems0_none, show (pdats m ρ 0 c).Φ (Fin.last _) = (dat0 (V1 m ρ) c).Φ (Fin.last cfg0.N) from rfl]
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters, every weakly fair execution terminates without a fault, and every final
    state has the results at the last boundary's contents, the argument arrays as launched, and every semaphore
    counter at zero. -/
theorem run : θ_run defs (onTc (τ := τ) (main (F := F))) ⟨m, fun _ => 0, ρ⟩ (fun r => (∀ c : Dev nD,
      r.2.mem ((c.tc : Thread nD τ).loc main_v6) = W6 m ρ c (Proc.devRef .tc main_v6)
      ∧ r.2.mem ((c.tc : Thread nD τ).loc main_v7) = W6 m ρ c (Proc.devRef .tc main_v7)
      ∧ r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v6 (by decide)), h c _ (mem_uc main_v7 (by decide)), h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩), funext fun g => hz g (.inr (no_unscoped g.2))⟩)

/-- The run, of which only the argument arrays and the counters are kept. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2, h.2⟩) (run m ρ)

end Cert.KernelIdeal.Whole

end
-- ==== Proof.Whole.Same.lean ====
/-
  The program over bit patterns and the program over the reals are one text but for the constant 1 / 7168, which the second
  gives a name. Where the name means the constant's own bit pattern, the bodies, the pipelines and the definitions are the
  same terms over any values. So what holds of a run of one over any values holds of the other.
-/
module

public import proofs.«01_k».proof.Defs
public import proofs.«01_k».proof.Proof.Whole.Run
public import proofs.«01_k».proof.Proof.Gen.Kernel

@[expose] public section

set_option maxRecDepth 16384

noncomputable section

open Idealize.ShloMosaic Idealize.SL.Sem

namespace Cert.KernelIdeal.Whole

/-- The reading of a named constant as its own bit pattern. -/
local instance unnamed (F : FTy → Type) [FloatOps F] : Named F where
  named _ _ {φ} b := FloatOps.ofBits φ b

section Text

variable {F : FTy → Type} [FloatOps F] [Cert.Kernel.Facts] [Cert.KernelIdeal.Facts]

theorem stats_same : @Cert.Kernel.cc0_stats F _ _ = @Cert.KernelIdeal.cc0_stats F _ _ _ := by rfl
theorem quant_same : @Cert.Kernel.cc1_quant F _ _ = @Cert.KernelIdeal.cc1_quant F _ _ := by rfl
theorem mm_same : @Cert.Kernel.cc2_mm F _ _ = @Cert.KernelIdeal.cc2_mm F _ _ := by rfl

theorem bodies_same : (Cert.Kernel.defs₀ (F := F)) = Cert.KernelIdeal.defs₀ (F := F) := by
  unfold Cert.Kernel.defs₀ Cert.KernelIdeal.defs₀
  refine congrArg Defs.onTc (funext fun k => ?_)
  match k with
  | 0 => exact funext fun ⟨t, s⟩ => rfl
  | 1 => exact funext fun ⟨t, s⟩ => rfl
  | 2 => exact funext fun ⟨t, s⟩ => rfl

theorem defs_same : (Cert.Kernel.defs (F := F)) = Cert.KernelIdeal.defs (F := F) :=
  (congrArg (Pipeline.defs Cert.Kernel.pcfgs) bodies_same).trans rfl

theorem main_same : (Cert.Kernel.main (F := F)) = Cert.KernelIdeal.main (F := F) := by rfl

end Text

/-- The kernel over bit patterns runs, leaves its arguments unchanged and every counter at zero. -/
theorem frame_bits : Cert.quiescent_Kernel (hKernel := Cert.Kernel.Gen.facts) := by
  letI := Cert.Kernel.Gen.facts
  letI := Cert.KernelIdeal.Gen.facts
  intro m g _
  have h := frame (F := Bits) m g
  rw [defs_same, main_same]
  exact h

end Cert.KernelIdeal.Whole

end
-- ==== Proof.Values.Points.lean ====
/-
  What the statistics call leaves after each grid point, in the names of the values its body computes: the block of
  reciprocal norms, the running column maximum, and at the last point the two scales.
-/
module

public import proofs.«01_k».proof.Proof.Whole.Stats
public import Idealize.ShloMosaic.Lib.Pipeline.ReadBack
public import Idealize.ShloMosaic.Lib.Pipeline.ValueKit
public import Idealize.ShloMosaic.Lib.Tactic

@[expose] public section

set_option maxRecDepth 16384

noncomputable section

open Idealize.ShloMosaic Idealize.ShloMosaic.TcCoe Idealize.SL.Sem

namespace Cert.KernelIdeal.Whole

open Cert.KernelIdeal Cert.KernelIdeal.Gen

variable {F : FTy → Type} [FloatOps F] [Named F]
variable (V : (c : Dev nD) → (b : Ref sig .tc) → Buf (Elt F) ((c : Thread nD τ).loc b))

/-- The first point: the norms of its rows, and the column maximum started from zeros. -/
theorem first_point (c : Dev nD) (t : Fin cfg0.N) (h0 : t.val % 64 = 0) (h1 : ¬t.val % 64 = 63) :
    (outsAt0 V c t.val t.isLt).1 = k0_pay4 (iblk0 V c 0 t)
    ∧ (outsAt0 V c t.val t.isLt).2.2.2 = k0_pay5 (iblk0 V c 0 t) k0_pay1 := by
  rw [outsAt0_A V c t h0 h1]
  refine ⟨funext fun y => ?_, funext fun y => ?_⟩
  · frame_out
  · frame_out

/-- A point between: the norms of its rows, and the column maximum joined with its own. -/
theorem middle_point (c : Dev nD) (t : Fin cfg0.N) (h0 : ¬t.val % 64 = 0) (h1 : ¬t.val % 64 = 63) :
    (outsAt0 V c t.val t.isLt).1 = k0_pay4 (iblk0 V c 0 t)
    ∧ (outsAt0 V c t.val t.isLt).2.2.2
        = k0_pay5 (iblk0 V c 0 t) (outsAt0 V c (t.val - 1) (lt_of_le_of_lt (Nat.sub_le _ _) t.isLt)).2.2.2 := by
  rw [outsAt0_B V c t h0 h1]
  refine ⟨funext fun y => ?_, funext fun y => ?_⟩
  · frame_out
  · frame_out
    simp only [read_unread_whole]

/-- The last point: as a point between. -/
theorem last_point (c : Dev nD) (t : Fin cfg0.N) (h0 : ¬t.val % 64 = 0) (h1 : t.val % 64 = 63) :
    (outsAt0 V c t.val t.isLt).1 = k0_pay4 (iblk0 V c 0 t)
    ∧ (outsAt0 V c t.val t.isLt).2.2.2
        = k0_pay5 (iblk0 V c 0 t) (outsAt0 V c (t.val - 1) (lt_of_le_of_lt (Nat.sub_le _ _) t.isLt)).2.2.2 := by
  rw [outsAt0_C V c t h0 h1]
  refine ⟨funext fun y => ?_, funext fun y => ?_⟩
  · frame_out
  · frame_out
    simp only [read_unread_whole]

/-- One step of the search for a number's exponent field: the field grows by `bit` where the power of two that it then
    stands for is at most `a`. -/
def step (a : F .f32) (b bit : BitVec 32) : BitVec 32 :=
  Scalar.select (Scalar.cmpf .oge a (Scalar.ofBits .f32 (Scalar.shli (Scalar.addi b bit) 23#32))) (Scalar.addi b bit) b

/-- The eight steps, from the highest bit of the field to the lowest. -/
def search (a : F .f32) : BitVec 32 :=
  step a (step a (step a (step a (step a (step a (step a (step a 0#32 128#32) 64#32) 32#32) 16#32) 8#32) 4#32) 2#32) 1#32

/-- The exponent of the scale from the field found: 0 where the field is all zeros or all ones. -/
def expOf (b : BitVec 32) : BitVec 32 :=
  Scalar.select (Scalar.ori (Scalar.cmpi .eq b 0#32) (Scalar.cmpi .eq b 255#32)) 0#32 (Scalar.subi b 126#32)

/-- The scale, put together from its exponent. -/
def scaleOf (a : F .f32) : F .f32 :=
  Scalar.ofBits .f32 (Scalar.shli (Scalar.addi 127#32 (expOf (search a))) 23#32)

/-- The scale's reciprocal, put together from the opposite exponent. -/
def invOf (a : F .f32) : F .f32 :=
  Scalar.ofBits .f32 (Scalar.shli (Scalar.subi 127#32 (expOf (search a))) 23#32)

theorem pay7_eq : (k0_pay7 : F .f32) = Scalar.ofBits .f32 (Scalar.shli (Scalar.addi 0#32 128#32) 23#32) := rfl

theorem first_steps (g : Vec F S1x7168 .bf16) (m : Vec F S8x7168 .f32) :
    k0_pay8 g m = Scalar.ofBits .f32 (Scalar.shli (Scalar.addi (step (k0_pay6 g m) 0#32 128#32) 64#32) 23#32) := rfl

theorem second_steps (g : Vec F S1x7168 .bf16) (m : Vec F S8x7168 .f32) :
    k0_pay9 g m = Scalar.ofBits .f32 (Scalar.shli (Scalar.addi (step (k0_pay6 g m) (step (k0_pay6 g m) 0#32 128#32) 64#32) 32#32) 23#32) := rfl

theorem third_steps (g : Vec F S1x7168 .bf16) (m : Vec F S8x7168 .f32) :
    k0_pay10 g m = Scalar.ofBits .f32 (Scalar.shli (Scalar.addi (step (k0_pay6 g m) (step (k0_pay6 g m) (step (k0_pay6 g m)
      0#32 128#32) 64#32) 32#32) 16#32) 23#32) := rfl

/-- The scale that the body puts together from the field after four steps. -/
theorem scale_steps (a : F .f32) :
    k0_pay11 a (step a (step a (step a (step a 0#32 128#32) 64#32) 32#32) 16#32)
      (Scalar.addi (step a (step a (step a (step a 0#32 128#32) 64#32) 32#32) 16#32) 8#32) 23#32 = scaleOf a := rfl

/-- The reciprocal that the body puts together from the field after four steps. -/
theorem inv_steps (a : F .f32) :
    k0_pay12 a (step a (step a (step a (step a 0#32 128#32) 64#32) 32#32) 16#32)
      (Scalar.addi (step a (step a (step a (step a 0#32 128#32) 64#32) 32#32) 16#32) 8#32) 23#32 = invOf a := rfl

/-- The last point's two scales, from the greatest scaled magnitude. -/
theorem last_scales (c : Dev nD) (t : Fin cfg0.N) (h0 : ¬t.val % 64 = 0) (h1 : t.val % 64 = 63) :
    (outsAt0 V c t.val t.isLt).2.1 = (fun _ => scaleOf (k0_pay6 (iblk0 V c 1 t) (outsAt0 V c t.val t.isLt).2.2.2))
    ∧ (outsAt0 V c t.val t.isLt).2.2.1 = (fun _ => invOf (k0_pay6 (iblk0 V c 1 t) (outsAt0 V c t.val t.isLt).2.2.2)) := by
  rw [(last_point V c t h0 h1).2, outsAt0_C V c t h0 h1]
  refine ⟨funext fun y => ?_, funext fun y => ?_⟩
  · frame_out
    simp only [read_unread_whole, pay7_eq, first_steps, second_steps, third_steps]
    exact scale_steps _
  · frame_out
    simp only [read_unread_whole, pay7_eq, first_steps, second_steps, third_steps]
    exact inv_steps _

end Cert.KernelIdeal.Whole

end
-- ==== Proof.Values.Scale.lean ====
/-
  The scale: the smallest power of two above the greatest scaled magnitude. The kernel finds its exponent bit by bit, the
  reference takes the least of all the powers above; here the two are shown equal, and so are the reciprocals.
-/
module

public import proofs.«01_k».proof.Proof.Values.Points

@[expose] public section

set_option maxRecDepth 16384

noncomputable section

open Idealize.ShloMosaic
open scoped BigOperators

namespace Cert.KernelIdeal.Whole

/-- The number whose exponent field is `n` and whose other bits are zero. -/
def field (n : ℕ) : EReal := Ideal.ofBits .f32 (BitVec.ofNat 32 n <<< 23)

theorem field_zero : field 0 = 0 := by
  simp [field, Ideal.ofBits, Ideal.ieee]

theorem field_bits : ∀ n : Fin 256, ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by decide +kernel

/-- A field from 1 to 254 is a power of two. -/
theorem field_pow {n : ℕ} (h1 : 1 ≤ n) (h2 : n ≤ 254) : field n = (((2 : ℝ) ^ ((n : ℤ) - 127) : ℝ) : EReal) := by
  obtain ⟨e1, e2, e3⟩ := field_bits ⟨n, by omega⟩
  simp only at e1 e2 e3
  unfold field Ideal.ofBits Ideal.ieee
  simp only [Nat.reduceAdd, e1, e2, e3]
  rw [if_neg (by norm_num; omega), if_neg (by omega)]
  refine congrArg (fun r : ℝ => (r : EReal)) ?_
  have h : ((n : ℤ) - 127) = 23 + ((n : ℤ) - (2 ^ (8 - 1) - 1) - (23 : ℕ)) := by norm_num
  rw [h, zpow_add₀ (by norm_num)]
  norm_num

theorem field_last : field 255 = ⊤ := by
  obtain ⟨e1, e2, e3⟩ := field_bits ⟨255, by omega⟩
  simp only at e1 e2 e3
  unfold field Ideal.ofBits Ideal.ieee
  simp only [Nat.reduceAdd, e1, e2, e3]
  norm_num

theorem field_lt {i j : ℕ} (hi : 1 ≤ i) (hij : i < j) (hj : j ≤ 254) : field i < field j := by
  rw [field_pow hi (by omega), field_pow (by omega) hj, EReal.coe_lt_coe_iff]
  exact zpow_lt_zpow_right₀ (by norm_num) (by omega)

theorem field_le {i j : ℕ} (hi : 1 ≤ i) (hij : i ≤ j) (hj : j ≤ 254) : field i ≤ field j := by
  rcases hij.eq_or_lt with rfl | h
  · exact le_rfl
  · exact (field_lt hi h hj).le

/-- The number that a step compares with. -/
theorem threshold (n : ℕ) : (Scalar.ofBits .f32 (Scalar.shli (BitVec.ofNat 32 n) 23#32) : Ideal .f32) = field n := by
  have h : Scalar.shli (BitVec.ofNat 32 n) 23#32 = BitVec.ofNat 32 n <<< 23 := by
    unfold Scalar.shli IntOp.shli
    rw [if_pos (by decide)]
    rfl
  rw [h]; rfl

/-- One step keeps the number between the power that the field stands for and the one `bit` above. -/
theorem step_spec {a : EReal} {n bit : ℕ} (hl : field n ≤ a) (hu : n + 2 * bit < 256 → a < field (n + 2 * bit))
    (hn : n + 2 * bit ≤ 256) :
    ∃ n', step (F := Ideal) a (BitVec.ofNat 32 n) (BitVec.ofNat 32 bit) = BitVec.ofNat 32 n' ∧ field n' ≤ a
      ∧ (n' + bit < 256 → a < field (n' + bit)) ∧ n' + bit ≤ 256 := by
  unfold step
  have hadd : Scalar.addi (BitVec.ofNat 32 n) (BitVec.ofNat 32 bit) = BitVec.ofNat 32 (n + bit) := (BitVec.ofNat_add _ _).symm
  rw [hadd, threshold]
  by_cases h : field (n + bit) ≤ a
  · refine ⟨n + bit, ?_, h, fun h' => ?_, by omega⟩
    · simp [Scalar.select, Ideal.cmp, h]
    · have := hu (by omega)
      rwa [show n + bit + bit = n + 2 * bit by ring]
  · refine ⟨n, ?_, hl, fun _ => not_le.mp h, by omega⟩
    simp [Scalar.select, Ideal.cmp, h]

/-- The search finds the field of the greatest power of two that is at most the number. -/
theorem search_spec {a : EReal} (ha : 0 ≤ a) :
    ∃ n, search (F := Ideal) a = BitVec.ofNat 32 n ∧ field n ≤ a ∧ (n + 1 < 256 → a < field (n + 1)) ∧ n + 1 ≤ 256 := by
  obtain ⟨n1, e1, l1, u1, b1⟩ := step_spec (a := a) (n := 0) (bit := 128) (by rwa [field_zero]) (by omega) (by omega)
  obtain ⟨n2, e2, l2, u2, b2⟩ := step_spec (bit := 64) l1 u1 b1
  obtain ⟨n3, e3, l3, u3, b3⟩ := step_spec (bit := 32) l2 u2 b2
  obtain ⟨n4, e4, l4, u4, b4⟩ := step_spec (bit := 16) l3 u3 b3
  obtain ⟨n5, e5, l5, u5, b5⟩ := step_spec (bit := 8) l4 u4 b4
  obtain ⟨n6, e6, l6, u6, b6⟩ := step_spec (bit := 4) l5 u5 b5
  obtain ⟨n7, e7, l7, u7, b7⟩ := step_spec (bit := 2) l6 u6 b6
  obtain ⟨n8, e8, l8, u8, b8⟩ := step_spec (bit := 1) l7 u7 b7
  refine ⟨n8, ?_, l8, u8, b8⟩
  unfold search
  rw [show (0#32) = BitVec.ofNat 32 0 from rfl, e1, e2, e3, e4, e5, e6, e7, e8]

theorem expOf_zero : expOf (BitVec.ofNat 32 0) = 0#32 := by decide

theorem expOf_pos : ∀ n : Fin 254, Scalar.addi 127#32 (expOf (BitVec.ofNat 32 (n.val + 1))) = BitVec.ofNat 32 (n.val + 2)
    ∧ (n.val ≤ 252 → Scalar.subi 127#32 (expOf (BitVec.ofNat 32 (n.val + 1))) = BitVec.ofNat 32 (252 - n.val)) := by
  decide +kernel

/-- The scale as the reference takes it: the least of the powers of two above the number, and 1 for a number below all
    the powers that are told apart. -/
def leastAbove (a : EReal) : EReal :=
  if a < Ideal.ofBits .f32 0x00800000#32 then 1
  else Finset.univ.fold min (Ideal.ofBits .f32 0x7F800000#32) fun k : Fin 253 =>
    if a < Ideal.exp2 (FloatOps.sitofp (F := Ideal) .f32 (BitVec.ofNat 32 k.val) - Ideal.ofBits .f32 0x42FA0000#32 : EReal)
    then Ideal.exp2 (FloatOps.sitofp (F := Ideal) .f32 (BitVec.ofNat 32 k.val) - Ideal.ofBits .f32 0x42FA0000#32 : EReal)
    else Ideal.ofBits .f32 0x7F800000#32

theorem word_toInt : ∀ k : Fin 253, (BitVec.ofNat 32 k.val).toInt = (k.val : ℤ) := by decide +kernel

/-- The reference's powers of two, as fields. -/
theorem power_field (k : Fin 253) :
    Ideal.exp2 (FloatOps.sitofp (F := Ideal) .f32 (BitVec.ofNat 32 k.val) - Ideal.ofBits .f32 0x42FA0000#32 : EReal)
      = field (k.val + 2) := by
  have hk := k.isLt
  have h1 : (FloatOps.sitofp (F := Ideal) .f32 (BitVec.ofNat 32 k.val) : EReal) = ((k.val : ℝ) : EReal) := by
    show ((((BitVec.ofNat 32 k.val).toInt : ℤ) : ℝ) : EReal) = _
    rw [word_toInt]; norm_num
  have h2 : Ideal.ofBits .f32 0x42FA0000#32 = ((125 : ℝ) : EReal) := by
    simp [Ideal.ofBits, Ideal.ieee]
    rw [← EReal.coe_mul]
    norm_num
  rw [h1, h2, ← EReal.coe_sub, Ideal.exp2_coe, field_pow (by omega) (by omega)]
  congr 1
  show (2 : ℝ) ^ ((k.val : ℝ) - 125) = _
  rw [← Real.rpow_intCast]
  congr 1
  push_cast; ring

theorem one_field : field 127 = 1 := by
  rw [field_pow (by omega) (by omega)]; norm_num

theorem inf_top : Ideal.ofBits .f32 0x7F800000#32 = ⊤ := field_last

/-- Between a power of two and the next, the least power above is the next. -/
theorem above_field {a : EReal} {n : ℕ} (hn : n < 252) (hl : field (n + 1) ≤ a) (hu : a < field (n + 2)) :
    leastAbove a = field (n + 2) := by
  unfold leastAbove
  have h1 : ¬ a < Ideal.ofBits .f32 0x00800000#32 := by
    have : Ideal.ofBits .f32 0x00800000#32 = field 1 := rfl
    rw [this, not_lt]
    exact (field_le le_rfl (by omega) (by omega)).trans hl
  rw [if_neg h1]
  simp only [power_field, inf_top]
  refine le_antisymm ?_ ?_
  · refine (Finset.fold_min_le _).mpr (Or.inr ⟨⟨n, by omega⟩, Finset.mem_univ _, ?_⟩)
    rw [if_pos hu]
  · refine (Finset.le_fold_min _).mpr ⟨le_top, fun k _ => ?_⟩
    have hk := k.isLt
    split_ifs with h
    · by_contra hc
      have hlt : k.val + 2 < n + 2 := by
        by_contra h'
        exact hc (field_le (by omega) (by omega) (by omega))
      have : field (k.val + 2) ≤ a := (field_le (by omega) (by omega) (by omega)).trans hl
      exact absurd h (not_lt.mpr this)
    · exact le_top

/-- The number 1 and its reciprocal. -/
theorem div_one_one : Ideal.div 1 1 = 1 := by
  unfold Ideal.div
  norm_num

/-- For a number below 2^126 the kernel's scale is the reference's, and its second number is the reciprocal. -/
theorem scale_eq {a : EReal} (h0 : 0 ≤ a) (h1 : a < field 253) :
    scaleOf (F := Ideal) a = leastAbove a ∧ invOf (F := Ideal) a = Ideal.div 1 (leastAbove a) := by
  obtain ⟨n, e, hl, hu, hb⟩ := search_spec h0
  have hn : n ≤ 252 := by
    by_contra h
    have h2 : field 253 ≤ field n := by
      by_cases h' : n ≤ 254
      · exact field_le (by omega) (by omega) h'
      · rw [show n = 255 by omega, field_last]; exact le_top
    exact absurd (h1.trans_le (h2.trans hl)) (lt_irrefl _)
  unfold scaleOf invOf
  rw [e]
  rcases n with _ | n
  · have ha : leastAbove a = 1 := by
      unfold leastAbove
      rw [if_pos]
      exact hu (by omega)
    have e1 : Scalar.addi 127#32 (expOf (BitVec.ofNat 32 0)) = BitVec.ofNat 32 127 := by decide
    have e2 : Scalar.subi 127#32 (expOf (BitVec.ofNat 32 0)) = BitVec.ofNat 32 127 := by decide
    rw [ha, e1, e2, threshold, one_field, div_one_one]
    exact ⟨rfl, rfl⟩
  · obtain ⟨e1, e2⟩ := expOf_pos ⟨n, by omega⟩
    simp only at e1 e2
    rw [e1, e2 (by omega), threshold, threshold, above_field (by omega) hl (hu (by omega))]
    refine ⟨rfl, ?_⟩
    rw [field_pow (n := n + 2) (by omega) (by omega), field_pow (n := 252 - n) (by omega) (by omega)]
    unfold Ideal.div
    have hpos : (0 : ℝ) < (2 : ℝ) ^ (((n + 2 : ℕ) : ℤ) - 127) := zpow_pos (by norm_num) _
    rw [if_neg (by exact_mod_cast hpos.ne'), one_mul, ← EReal.coe_inv, ← zpow_neg]
    have : (((252 - n : ℕ) : ℤ) - 127) = -(((n + 2 : ℕ) : ℤ) - 127) := by omega
    rw [this]

end Cert.KernelIdeal.Whole

end
-- ==== Proof.Values.Plain.lean ====
/-
  The layer over plain functions of row and column: the normalised rows, their greatest scaled magnitude, the quantised
  codes and the scaled product; with the bound on the magnitude that keeps the scale in range.
-/
module

public import proofs.«01_k».proof.Proof.Values.Scale
public import Idealize.ShloMosaic.PureOps.IdealRules

@[expose] public section

set_option maxRecDepth 16384

noncomputable section

open Idealize.ShloMosaic
open scoped BigOperators

namespace Cert.Plain

open Cert.KernelIdeal.Whole (field field_pow leastAbove)

/-- The reciprocal norm of a row: one over the root of its mean square and a small constant. -/
def rnorm (v : Fin 7168 → EReal) : EReal :=
  Ideal.rsqrt (Ideal.div (∑ k, v k * v k) ((7168 : ℝ) : EReal) + Ideal.ofBits .f32 0x358637BD#32)

/-- The magnitude. -/
def mag (a : EReal) : EReal := max a (-a)

/-- The normalised entry. -/
def normed (x : Fin 16384 → Fin 7168 → EReal) (g : Fin 7168 → EReal) (r : Fin 16384) (k : Fin 7168) : EReal :=
  x r k * rnorm (x r) * g k

/-- The greatest magnitude of all the normalised entries, over 448. -/
def top (x : Fin 16384 → Fin 7168 → EReal) (g : Fin 7168 → EReal) : EReal :=
  (Finset.univ.fold max (Ideal.ofBits .f32 0xFF800000#32) fun p : Fin 16384 × Fin 7168 => mag (normed x g p.1 p.2))
    * Ideal.ofBits .f32 0x3B124925#32

/-- The scale of the codes. -/
def scale (x : Fin 16384 → Fin 7168 → EReal) (g : Fin 7168 → EReal) : EReal := leastAbove (top x g)

/-- The code of an entry: divided by the scale and clipped. -/
def code (x : Fin 16384 → Fin 7168 → EReal) (g : Fin 7168 → EReal) (r : Fin 16384) (k : Fin 7168) : EReal :=
  min (Ideal.ofBits .f32 0x43E00000#32) (max (Ideal.ofBits .f32 0xC3E00000#32) (normed x g r k * Ideal.div 1 (scale x g)))

/-- The product of codes and weights, scaled. -/
def out (x : Fin 16384 → Fin 7168 → EReal) (g : Fin 7168 → EReal) (w : Fin 7168 → Fin 18432 → EReal) (ws : EReal)
    (r : Fin 16384) (q : Fin 18432) : EReal :=
  (0 + ∑ k, code x g r k * w k q) * (scale x g * ws)

/-- A mean over 7168 entries is the sum times the reciprocal. -/
theorem mean_eq (s : EReal) : Ideal.div s ((7168 : ℝ) : EReal) = s * ((1 / 7168 : ℝ) : EReal) := by
  unfold Ideal.div
  rw [if_neg (by exact_mod_cast (by norm_num : (7168 : ℝ) ≠ 0)), ← EReal.coe_inv, one_div]

theorem count_const : Ideal.ofBits .f32 0x45E00000#32 = ((7168 : ℝ) : EReal) := by
  simp [Ideal.ofBits, Ideal.ieee, -EReal.coe_mul]
  norm_num

/-- The reciprocal norm with the kernel's constant, which is named 1 / 7168. -/
theorem rnorm_named (v : Fin 7168 → EReal) : rnorm v
    = Ideal.rsqrt ((∑ k, v k * v k) * Named.named (F := Ideal) Cert.KernelIdeal.κ "inv_d" (φ := .f32) 0x39124925#32
        + Ideal.ofBits .f32 0x358637BD#32) := by
  rw [IdealRules.named_const.ideal_named_scalar Cert.KernelIdeal.κ "inv_d" _ ((1 / 7168 : ℝ) : EReal) rfl, ← mean_eq]
  rfl

/-- The reciprocal norm with the number of entries as the reference writes it. -/
theorem rnorm_count (v : Fin 7168 → EReal) : rnorm v
    = Ideal.rsqrt (Ideal.div (∑ k, v k * v k) (Ideal.ofBits .f32 0x45E00000#32) + Ideal.ofBits .f32 0x358637BD#32) := by
  rw [count_const]
  rfl

theorem neg_inf : Ideal.ofBits .f32 0xFF800000#32 = ⊥ := by simp [Ideal.ofBits, Ideal.ieee]

theorem mag_nonneg (a : EReal) : 0 ≤ mag a := by
  rcases le_total 0 a with h | h
  · exact h.trans (le_max_left _ _)
  · exact (EReal.neg_nonneg.mpr h).trans (le_max_right _ _)

theorem mag_of_nonneg {a : EReal} (h : 0 ≤ a) : mag a = a :=
  max_eq_left ((EReal.neg_le_neg_iff.mpr h).trans (by simpa using h))

theorem mag_neg (a : EReal) : mag (-a) = mag a := by
  unfold mag; rw [neg_neg, max_comm]

/-- The magnitude of a product. -/
theorem mag_mul (a b : EReal) : mag (a * b) = mag a * mag b := by
  have key : ∀ a b : EReal, 0 ≤ a → 0 ≤ b → mag (a * b) = mag a * mag b := fun a b ha hb => by
    rw [mag_of_nonneg ha, mag_of_nonneg hb, mag_of_nonneg (mul_nonneg ha hb)]
  rcases le_total 0 a with ha | ha <;> rcases le_total 0 b with hb | hb
  · exact key a b ha hb
  · have := key a (-b) ha (EReal.neg_nonneg.mpr hb)
    rwa [mul_neg, mag_neg, mag_neg] at this
  · have := key (-a) b (EReal.neg_nonneg.mpr ha) hb
    rwa [EReal.neg_mul, mag_neg, mag_neg] at this
  · have := key (-a) (-b) (EReal.neg_nonneg.mpr ha) (EReal.neg_nonneg.mpr hb)
    rwa [mul_neg, EReal.neg_mul, neg_neg, mag_neg, mag_neg] at this

/-- A maximum times a nonnegative number, against a bound. -/
theorem max_mul_le {a b y z : EReal} (hy : 0 ≤ y) : max a b * y ≤ z ↔ a * y ≤ z ∧ b * y ≤ z := by
  have hm : Monotone fun t : EReal => t * y := fun s t h => mul_le_mul_of_nonneg_right h hy
  rw [show max a b * y = max (a * y) (b * y) from hm.map_max]
  exact max_le_iff

/-- The maximum of a family times a nonnegative number, against a bound. -/
theorem fold_mul_le {ι : Type} [Fintype ι] [Nonempty ι] (f : ι → EReal) {y z : EReal} (hy : 0 ≤ y) :
    (Finset.univ.fold max ⊥ f) * y ≤ z ↔ ∀ i, f i * y ≤ z := by
  constructor
  · intro h i
    exact (mul_le_mul_of_nonneg_right ((Finset.le_fold_max _).mpr (Or.inr ⟨i, Finset.mem_univ _, le_rfl⟩)) hy).trans h
  · intro h
    obtain ⟨i, _, hi⟩ := Finset.exists_mem_eq_sup Finset.univ Finset.univ_nonempty f
    rw [show Finset.univ.fold max ⊥ f = f i from hi]
    exact h i

theorem fold_le {ι : Type} [Fintype ι] (f : ι → EReal) {z : EReal} :
    (Finset.univ.fold max ⊥ f) ≤ z ↔ ∀ i, f i ≤ z := by
  rw [Finset.fold_max_le]
  exact ⟨fun h i => h.2 i (Finset.mem_univ _), fun h => ⟨bot_le, fun i _ => h i⟩⟩

theorem fold_nonneg {ι : Type} [Fintype ι] [Nonempty ι] (b : EReal) (f : ι → EReal) (h : ∀ i, 0 ≤ f i) :
    0 ≤ Finset.univ.fold max b f := by
  obtain ⟨i⟩ := ‹Nonempty ι›
  exact (h i).trans ((Finset.le_fold_max _).mpr (Or.inr ⟨i, Finset.mem_univ _, le_rfl⟩))

theorem eps_const : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem max_const : Ideal.ofBits .f32 0x3B124925#32 = ((9586981 * (2 : ℝ) ^ (-32 : ℤ) : ℝ) : EReal) := by
  simp [Ideal.ofBits, Ideal.ieee]

theorem self_mul_nonneg (a : EReal) : 0 ≤ a * a := by
  have := mag_nonneg (a * a)
  rcases le_total 0 a with h | h
  · exact mul_nonneg h h
  · rw [← neg_neg (a * a), ← EReal.neg_mul, ← mul_neg]
    exact mul_nonneg (EReal.neg_nonneg.mpr h) (EReal.neg_nonneg.mpr h)

theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An entry times its row's reciprocal norm is at most 85: its square is at most the row's sum of squares. -/
theorem row_bound (v : Fin 7168 → EReal) (k : Fin 7168) : mag (v k * rnorm v) ≤ ((85 : ℝ) : EReal) := by
  obtain ⟨e, he, hee⟩ := eps_const
  unfold rnorm
  rw [mean_eq, hee]
  by_cases hv : ∀ j, ∃ r : ℝ, v j = (r : EReal)
  · choose w hw using hv
    have hs : (∑ k, v k * v k) = ((∑ k, w k * w k : ℝ) : EReal) := by
      rw [real_sum]
      exact Finset.sum_congr rfl fun j _ => by rw [hw j, EReal.coe_mul]
    have hk : w k * w k ≤ ∑ k, w k * w k :=
      Finset.single_le_sum (f := fun j => w j * w j) (fun j _ => mul_self_nonneg _) (Finset.mem_univ k)
    rw [hs, ← EReal.coe_mul, ← EReal.coe_add, hw k]
    set S : ℝ := ∑ k, w k * w k
    have hS : 0 ≤ S := (mul_self_nonneg _).trans hk
    set s : ℝ := S * (1 / 7168 : ℝ) + e with hsd
    have hsp : 0 < s := by positivity
    have hr : Ideal.rsqrt (s : EReal) = (((Real.sqrt s)⁻¹ : ℝ) : EReal) := by
      show (if s < 0 then ⊥ else if s = 0 then ⊤ else _) = _
      rw [if_neg (not_lt.mpr hsp.le), if_neg hsp.ne']
    rw [hr, ← EReal.coe_mul]
    unfold mag
    rw [← EReal.coe_neg, max_le_iff, EReal.coe_le_coe_iff, EReal.coe_le_coe_iff]
    have hq : 0 < Real.sqrt s := Real.sqrt_pos.mpr hsp
    have hsq : w k * w k ≤ (85 * Real.sqrt s) ^ 2 := by
      rw [mul_pow, Real.sq_sqrt hsp.le]
      have : S ≤ 85 ^ 2 * (S * (1 / 7168 : ℝ)) := by
        have h2 : (1 : ℝ) ≤ 85 ^ 2 * (1 / 7168 : ℝ) := by norm_num
        nlinarith
      nlinarith [he]
    have hab := abs_le_of_sq_le_sq' (by rw [pow_two (w k)]; exact hsq) (by positivity : (0 : ℝ) ≤ 85 * Real.sqrt s)
    rw [← div_eq_mul_inv, ← neg_div, div_le_iff₀ hq, div_le_iff₀ hq]
    exact ⟨hab.2, by linarith [hab.1]⟩
  · push Not at hv
    obtain ⟨j, hj⟩ := hv
    have hj2 : v j * v j = ⊤ := by
      induction h : v j using EReal.rec with
      | bot => simp
      | top => simp
      | coe r => exact absurd h (hj r)
    have hs : (∑ k, v k * v k) = ⊤ := by
      refine top_le_iff.mp ?_
      rw [← hj2]
      exact Finset.single_le_sum (f := fun j => v j * v j) (fun i _ => self_mul_nonneg _) (Finset.mem_univ j)
    rw [hs, EReal.top_mul_coe_of_pos (by positivity), EReal.top_add_coe]
    show mag (v k * 0) ≤ _
    rw [mul_zero, mag_of_nonneg le_rfl]
    exact_mod_cast (by norm_num : (0 : ℝ) ≤ 85)

/-- The greatest scaled magnitude is nonnegative. -/
theorem top_nonneg (x : Fin 16384 → Fin 7168 → EReal) (g : Fin 7168 → EReal) : 0 ≤ top x g := by
  unfold top
  rw [max_const]
  refine mul_nonneg ?_ (by exact_mod_cast (by positivity : (0 : ℝ) ≤ _))
  exact fold_nonneg _ _ fun p => mag_nonneg _

/-- With the weights of the norm in range, it is below 2^126. -/
theorem top_lt (x : Fin 16384 → Fin 7168 → EReal) (g : Fin 7168 → EReal)
    (hg : ∀ k, mag (g k) ≤ (((2 : ℝ) ^ (128 : ℤ) : ℝ) : EReal)) : top x g < field 253 := by
  have h1 : (Finset.univ.fold max (Ideal.ofBits .f32 0xFF800000#32) fun p : Fin 16384 × Fin 7168 => mag (normed x g p.1 p.2))
      ≤ ((85 * (2 : ℝ) ^ (128 : ℤ) : ℝ) : EReal) := by
    rw [neg_inf, fold_le]
    intro p
    unfold normed
    rw [mag_mul, EReal.coe_mul]
    exact mul_le_mul (row_bound _ _) (hg _) (mag_nonneg _) (by exact_mod_cast (by norm_num : (0 : ℝ) ≤ 85))
  unfold top
  rw [max_const, field_pow (by omega) (by omega)]
  refine (mul_le_mul_of_nonneg_right h1 (by exact_mod_cast (by positivity : (0 : ℝ) ≤ _))).trans_lt ?_
  rw [← EReal.coe_mul, EReal.coe_lt_coe_iff]
  norm_num

end Cert.Plain

end
-- ==== Proof.Values.StatsValue.lean ====
/-
  What the statistics call leaves in its three arrays: the reciprocal norm of every row in each lane, and the two scales.
-/
module

public import proofs.«01_k».proof.Proof.Values.Plain
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Whole

open Cert.KernelIdeal Cert.KernelIdeal.Gen Cert.Plain

variable (V : (c : Dev nD) → (b : Ref sig .tc) → Buf (Elt Ideal) ((c : Thread nD τ).loc b))

/-- The rows as a function of row and column. -/
def rowsOf (x : Vec Ideal S16384x7168 .bf16) : Fin 16384 → Fin 7168 → EReal := fun r k => x (ix2 r k)

/-- The norm's weights as a function of the column. -/
def weightsOf (g : Vec Ideal S1x7168 .bf16) : Fin 7168 → EReal := fun k => g (ix2 0 k)

/-- The codes as an array. -/
def codesArr (x : Vec Ideal S16384x7168 .bf16) (g : Vec Ideal S1x7168 .bf16) : Vec Ideal S16384x7168 .fp8e4m3 :=
  fun j => code (rowsOf x) (weightsOf g) (j 0) (j 1)

/-- The scale as an array. -/
def scaleArr (x : Vec Ideal S16384x7168 .bf16) (g : Vec Ideal S1x7168 .bf16) : Vec Ideal S1x1 .f32 :=
  fun _ => scale (rowsOf x) (weightsOf g)

/-- The scaled product as an array. -/
def outArr (x : Vec Ideal S16384x7168 .bf16) (g : Vec Ideal S1x7168 .bf16) (w : Vec Ideal S7168x18432 .fp8e4m3)
    (ws : Vec Ideal S1x1 .f32) : Vec Ideal S16384x18432 .bf16 :=
  fun j => out (rowsOf x) (weightsOf g) (fun k q => w (ix2 k q)) (ws (ix2 0 0)) (j 0) (j 1)

/-- The index maps in closed form. -/
theorem idx0 : ∀ t : Fin grid0.N, win0_0.index t = ![t.val, 0] ∧ win0_1.index t = ![0, 0] ∧ win0_2.index t = ![t.val, 0]
    ∧ win0_3.index t = ![0, 0] ∧ win0_4.index t = ![0, 0] := by decide +kernel

/-- Every point leaves the norms of its rows. -/
theorem norms_point (c : Dev nD) (t : Fin cfg0.N) : (outsAt0 V c t.val t.isLt).1 = k0_pay4 (iblk0 V c 0 t) := by
  have hN : t.val < 64 := lt_of_lt_of_eq t.isLt N_0
  by_cases h0 : t.val % 64 = 0
  · exact (first_point V c t h0 (by omega)).1
  · by_cases h1 : t.val % 64 = 63
    · exact (last_point V c t h0 h1).1
    · exact (middle_point V c t h0 h1).1

/-- The array of reciprocal norms after the run. -/
theorem norms_final (c : Dev nD) : (dat0 V c).arrAt 2 cfg0.N
    = fun j => rnorm (rowsOf (V c main_v0) (j 0)) := by
  refine (dat0 V c).arrAt_eq_of_covers 2 _ (by decide +kernel) fun t hf y => ?_
  blk_simp
  rw [after0_2, norms_point]
  idx_vars y
  rw [rnorm_named]
  unfold rowsOf
  pointwise [k0_pay4, k0_pay3, k0_pay2]
  blk_point [iblk0, idx0 t]

theorem row_lt (t : Fin cfg0.N) (p : Fin 256) : t.val * 256 + p.val < 16384 := by
  have hN : t.val < 64 := lt_of_lt_of_eq t.isLt N_0
  have := p.isLt
  omega

/-- A point's block of rows. -/
theorem rows_block (c : Dev nD) (t : Fin cfg0.N) (p : Fin 256) (k : Fin 7168) :
    (iblk0 V c 0 t : Vec Ideal S256x7168 .bf16) (ix2 p k) = rowsOf (V c main_v0) ⟨t.val * 256 + p.val, row_lt t p⟩ k := by
  unfold rowsOf
  blk_point [iblk0, idx0 t]

theorem weights_block (c : Dev nD) (t : Fin cfg0.N) (k : Fin 7168) :
    (iblk0 V c 1 t : Vec Ideal S1x7168 .bf16) (ix2 0 k) = weightsOf (V c main_v1) k := by
  unfold weightsOf
  blk_point [iblk0, idx0 t]

theorem in_block (a : Fin 32) (i : Fin 8) : a.val * 8 + i.val < 256 := by
  have := a.isLt; have := i.isLt; omega

/-- The column maximum after a point, from the one before. -/
theorem colmax_step (c : Dev nD) (t : Fin cfg0.N) (m : Vec Ideal S8x7168 .f32) (i : Fin 8) (k : Fin 7168) :
    (k0_pay5 (iblk0 V c 0 t) m : Vec Ideal S8x7168 .f32) (ix2 i k)
      = max (m (ix2 i k)) (Finset.univ.fold max ⊥ fun a : Fin 32 =>
          mag (rowsOf (V c main_v0) ⟨t.val * 256 + (a.val * 8 + i.val), row_lt t ⟨_, in_block a i⟩⟩ k
            * rnorm (rowsOf (V c main_v0) ⟨t.val * 256 + (a.val * 8 + i.val), row_lt t ⟨_, in_block a i⟩⟩))) := by
  pointwise [k0_pay5, k0_pay3, k0_pay2]
  simp only [rows_block, neg_inf, rnorm_named]
  rfl

/-- The magnitude that a column maximum takes from row `a * 8 + i` of block `t`. -/
def partOf (c : Dev nD) (t : Fin cfg0.N) (a : Fin 32) (i : Fin 8) (k : Fin 7168) : EReal :=
  mag (rowsOf (V c main_v0) ⟨t.val * 256 + (a.val * 8 + i.val), row_lt t ⟨_, in_block a i⟩⟩ k
    * rnorm (rowsOf (V c main_v0) ⟨t.val * 256 + (a.val * 8 + i.val), row_lt t ⟨_, in_block a i⟩⟩))

/-- What bounds a column maximum after point `n`, times a nonnegative number: the same of every row up to that point. -/
theorem colmax_le (c : Dev nD) (i : Fin 8) (k : Fin 7168) {y z : EReal} (hy : 0 ≤ y) : ∀ (n : ℕ) (hn : n < cfg0.N),
    ((outsAt0 V c n hn).2.2.2 : Vec Ideal S8x7168 .f32) (ix2 i k) * y ≤ z
      ↔ 0 ≤ z ∧ ∀ t : Fin cfg0.N, t.val ≤ n → ∀ a : Fin 32, partOf V c t a i k * y ≤ z
  | 0, hn => by
    rw [(first_point V c ⟨0, hn⟩ (by norm_num) (by norm_num)).2, colmax_step, max_mul_le hy, fold_mul_le _ hy]
    have h0 : (k0_pay1 (F := Ideal) : Vec Ideal S8x7168 .f32) (ix2 i k) = (0 : EReal) := by pointwise [k0_pay1]
    rw [h0, zero_mul]
    refine and_congr_right fun _ => ⟨fun h t ht a => ?_, fun h a => h ⟨0, hn⟩ le_rfl a⟩
    have : t = ⟨0, hn⟩ := Fin.ext (Nat.le_zero.mp ht)
    rw [this]; exact h a
  | n + 1, hn => by
    have hN : n + 1 < 64 := lt_of_lt_of_eq hn N_0
    have e : (outsAt0 V c (n + 1) hn).2.2.2
        = k0_pay5 (iblk0 V c 0 ⟨n + 1, hn⟩) (outsAt0 V c n (Nat.lt_of_succ_lt hn)).2.2.2 := by
      by_cases h1 : (n + 1) % 64 = 63
      · exact (last_point V c ⟨n + 1, hn⟩ (by dsimp only; omega) h1).2
      · exact (middle_point V c ⟨n + 1, hn⟩ (by dsimp only; omega) h1).2
    rw [e, colmax_step, max_mul_le hy, fold_mul_le _ hy, colmax_le c i k hy n (Nat.lt_of_succ_lt hn)]
    constructor
    · rintro ⟨⟨hz, h1⟩, h2⟩
      refine ⟨hz, fun t ht a => ?_⟩
      rcases Nat.lt_or_ge t.val (n + 1) with h | h
      · exact h1 t (Nat.lt_succ_iff.mp h) a
      · have : t = ⟨n + 1, hn⟩ := Fin.ext (le_antisymm ht h)
        rw [this]; exact h2 a
    · rintro ⟨hz, h⟩
      exact ⟨⟨hz, fun t ht a => h t (ht.trans (Nat.le_succ n)) a⟩, fun a => h ⟨n + 1, hn⟩ le_rfl a⟩

/-- The last point. -/
def lastPt : Fin cfg0.N := ⟨63, lt_of_lt_of_eq (by norm_num) N_0.symm⟩

/-- The number that the scale is found from: the greatest magnitude of all the normalised entries, over 448. -/
theorem top_eq (c : Dev nD) :
    k0_pay6 (iblk0 V c 1 lastPt) (outsAt0 V c lastPt.val lastPt.isLt).2.2.2
      = top (rowsOf (V c main_v0)) (weightsOf (V c main_v1)) := by
  pointwise [k0_pay6]
  unfold top
  refine congrArg (fun a : EReal => a * Ideal.ofBits .f32 0x3B124925#32) ?_
  rw [neg_inf]
  refine eq_of_forall_ge_iff fun z => ?_
  rw [fold_le, fold_le]
  constructor
  · rintro h ⟨r, k⟩
    have hr := r.isLt
    have h1 := h (⟨r.val % 8, Nat.mod_lt _ (by norm_num)⟩, k)
    simp only [weights_block] at h1
    have h2 := ((colmax_le V c _ k (mag_nonneg _) 63 lastPt.isLt).mp h1).2
      ⟨r.val / 256, lt_of_lt_of_eq (by omega) N_0.symm⟩ (by dsimp only; omega) ⟨r.val % 256 / 8, by omega⟩
    unfold normed
    rw [mag_mul]
    have hrow : (⟨r.val / 256 * 256 + (r.val % 256 / 8 * 8 + r.val % 8), by omega⟩ : Fin 16384) = r := Fin.ext (by dsimp only; omega)
    unfold partOf at h2
    simp only [hrow] at h2
    exact h2
  · rintro h ⟨i, k⟩
    simp only [weights_block]
    refine (colmax_le V c i k (mag_nonneg _) 63 lastPt.isLt).mpr ⟨?_, fun t _ a => ?_⟩
    · exact (mag_nonneg _).trans (h (⟨0, by omega⟩, k))
    · have h1 := h (⟨t.val * 256 + (a.val * 8 + i.val), row_lt t ⟨_, in_block a i⟩⟩, k)
      unfold normed at h1
      rw [mag_mul] at h1
      exact h1

/-- The scale array after the run. -/
theorem scale_final (c : Dev nD) : (dat0 V c).arrAt 3 cfg0.N
    = fun _ => scaleOf (F := Ideal) (top (rowsOf (V c main_v0)) (weightsOf (V c main_v1))) := by
  refine (dat0 V c).arrAt_eq_of_after_last 3 lastPt (by decide +kernel) _ fun j => ?_
  blk_simp
  rw [after0_3, (last_scales V c lastPt (by decide) (by decide)).1, top_eq]

/-- The reciprocal's array after the run. -/
theorem inv_final (c : Dev nD) : (dat0 V c).arrAt 4 cfg0.N
    = fun _ => invOf (F := Ideal) (top (rowsOf (V c main_v0)) (weightsOf (V c main_v1))) := by
  refine (dat0 V c).arrAt_eq_of_after_last 4 lastPt (by decide +kernel) _ fun j => ?_
  blk_simp
  rw [after0_4, (last_scales V c lastPt (by decide) (by decide)).2, top_eq]

end Cert.KernelIdeal.Whole

end
-- ==== Proof.Values.CodesValue.lean ====
/-
  What the quantising call and the product call leave in their arrays, from what their input arrays hold.
-/
module

public import proofs.«01_k».proof.Proof.Whole.Quant
public import proofs.«01_k».proof.Proof.Whole.Product
public import Idealize.ShloMosaic.Lib.Pipeline.ReadBack
public import Idealize.ShloMosaic.Lib.Pipeline.ValueKit
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Whole

open Cert.KernelIdeal Cert.KernelIdeal.Gen

variable (V : (c : Dev nD) → (b : Ref sig .tc) → Buf (Elt Ideal) ((c : Thread nD τ).loc b))

theorem idx1 : ∀ t : Fin grid1.N, win1_0.index t = ![0, 0] ∧ win1_1.index t = ![t.val, 0] ∧ win1_2.index t = ![0, 0]
    ∧ win1_3.index t = ![t.val, 0] ∧ win1_4.index t = ![t.val, 0] := by decide +kernel

/-- Point `t` is row block `t / 18`, column block `t % 18`. -/
theorem idx2 : ∀ t : Fin grid2.N, win2_0.index t = ![0, 0] ∧ win2_1.index t = ![0, 0] ∧ win2_2.index t = ![t.val / 18, 0]
    ∧ win2_3.index t = ![0, t.val % 18] ∧ win2_4.index t = ![t.val / 18, t.val % 18] := by decide +kernel

/-- The codes from the rows, the norm's weights, the reciprocal norms and the scale's reciprocal. -/
def codesOf (x : Vec Ideal S16384x7168 .bf16) (g : Vec Ideal S1x7168 .bf16) (r : Vec Ideal S16384x128 .f32)
    (inv : Vec Ideal S1x1 .f32) : Vec Ideal S16384x7168 .fp8e4m3 :=
  fun j => min (Ideal.ofBits .f32 0x43E00000#32) (max (Ideal.ofBits .f32 0xC3E00000#32)
    ((x (ix2 (j 0) (j 1)) : EReal) * r (ix2 (j 0) 0) * g (ix2 0 (j 1)) * inv (ix2 0 0)))

/-- The scaled product from codes, weights and the two scales. -/
def outOf (codes : Vec Ideal S16384x7168 .fp8e4m3) (w : Vec Ideal S7168x18432 .fp8e4m3) (s ws : Vec Ideal S1x1 .f32) :
    Vec Ideal S16384x18432 .bf16 :=
  fun j => (0 + ∑ k : Fin 7168, codes (ix2 (j 0) k) * w (ix2 k (j 1)) : EReal) * ((s (ix2 0 0) : EReal) * (ws (ix2 0 0) : EReal))

/-- The array of codes after the run. -/
theorem codes_final (c : Dev nD) : (dat1 V c).arrAt 4 cfg1.N
    = codesOf (V c main_v0) (V c main_v1) (V c main_v2_0) (V c main_v2_2) := by
  refine (dat1 V c).arrAt_eq_of_covers 4 _ (by decide +kernel) fun t hf y => ?_
  blk_simp
  rw [after1_4]
  unfold outsAt1
  frame_out
  idx_vars y
  unfold codesOf
  pointwise [k1_pay1]
  blk_point [iblk1, idx1 t]

/-- The array of the product after the run. -/
theorem out_final (c : Dev nD) : (dat2 V c).arrAt 4 cfg2.N
    = outOf (V c main_v3) (V c main_arg2) (V c main_v2_1) (V c main_v4) := by
  refine (dat2 V c).arrAt_eq_of_covers 4 _ (by decide +kernel) fun t hf y => ?_
  blk_simp
  rw [after2_4]
  unfold outsAt2
  frame_out
  idx_vars y
  unfold outOf
  pointwise [k2_pay1]
  blk_point [iblk2, idx2 t]

end Cert.KernelIdeal.Whole

end
-- ==== Proof.Values.KernelRun.lean ====
/-
  The results of the kernel: the three arrays of the plain layer of the reshaped arguments, reshaped, when the number that
  the scale is found from is below 2^126.
-/
module

public import proofs.«01_k».proof.Proof.Values.StatsValue
public import proofs.«01_k».proof.Proof.Values.CodesValue
public import proofs.«01_k».proof.Proof.Whole.Run
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.KernelIdeal.Whole

open Cert.KernelIdeal Cert.KernelIdeal.Gen Cert.Plain

variable (m : (ℓ : Loc nD τ sig) → Buf (Elt Ideal) ℓ) (ρ : Dev nD → PrngReg)

/-- The rows: the first argument as 16384 rows. -/
abbrev X (c : Dev nD) : Vec Ideal S16384x7168 .bf16 :=
  shapeCast S16384x7168 (m ((c : Thread nD τ).loc main_arg0)) shapeCasts_S2x8192x7168_S16384x7168
/-- The norm's weights as one row. -/
abbrev G (c : Dev nD) : Vec Ideal S1x7168 .bf16 :=
  shapeCast S1x7168 (m ((c : Thread nD τ).loc main_arg1)) shapeCasts_S7168_S1x7168
/-- The scale of the weights as one entry. -/
abbrev S (c : Dev nD) : Vec Ideal S1x1 .f32 :=
  shapeCast S1x1 (m ((c : Thread nD τ).loc main_arg3)) shapeCasts_S_S1x1

theorem V1_rows (c : Dev nD) : V1 m ρ c main_v0 = X m c := by
  after_reads_simp
  rfl

theorem V1_weights (c : Dev nD) : V1 m ρ c main_v1 = G m c := by
  after_reads_simp
  rfl

/-- Above its bound the two ways to find the scale agree. -/
abbrev Below (c : Dev nD) : Prop := top (rowsOf (X m c)) (weightsOf (G m c)) < field 253

/-! After the statistics call. -/

theorem V2_rows (c : Dev nD) : V2 m ρ c main_v0 = X m c :=
  (W2_of m ρ c main_v0 (by decide +kernel)).trans (V1_rows m ρ c)
theorem V2_weights (c : Dev nD) : V2 m ρ c main_v1 = G m c :=
  (W2_of m ρ c main_v1 (by decide +kernel)).trans (V1_weights m ρ c)
theorem V2_norms (c : Dev nD) : V2 m ρ c main_v2_0 = fun j => rnorm (rowsOf (X m c) (j 0)) := by
  refine (W2_arr m ρ c 2).trans ((norms_final (V1 m ρ) c).trans ?_)
  rw [V1_rows]
theorem V2_scale (c : Dev nD) (h : Below m c) : V2 m ρ c main_v2_1 = scaleArr (X m c) (G m c) := by
  refine (W2_arr m ρ c 3).trans ((scale_final (V1 m ρ) c).trans ?_)
  rw [V1_rows, V1_weights]
  exact funext fun _ => (scale_eq (top_nonneg _ _) h).1
theorem V2_inv (c : Dev nD) (h : Below m c) :
    V2 m ρ c main_v2_2 = fun _ => Ideal.div 1 (scale (rowsOf (X m c)) (weightsOf (G m c))) := by
  refine (W2_arr m ρ c 4).trans ((inv_final (V1 m ρ) c).trans ?_)
  rw [V1_rows, V1_weights]
  exact funext fun _ => (scale_eq (top_nonneg _ _) h).2

/-! After the quantising call. -/

theorem V3_codes (c : Dev nD) (h : Below m c) : V3 m ρ c main_v3 = codesArr (X m c) (G m c) := by
  refine (W3_arr m ρ c 4).trans ((codes_final (V2 m ρ) c).trans ?_)
  rw [V2_rows, V2_weights, V2_norms, V2_inv m ρ c h]
  rfl
theorem V3_scale (c : Dev nD) (h : Below m c) : V3 m ρ c main_v2_1 = scaleArr (X m c) (G m c) :=
  (W3_of m ρ c main_v2_1 (by decide +kernel)).trans (V2_scale m ρ c h)

/-! After the product call. -/

theorem V4_codes (c : Dev nD) (h : Below m c) : V4 m ρ c main_v3 = codesArr (X m c) (G m c) :=
  (W4_of m ρ c main_v3 (by decide +kernel)).trans (V3_codes m ρ c h)
theorem V4_scale (c : Dev nD) (h : Below m c) : V4 m ρ c main_v2_1 = scaleArr (X m c) (G m c) :=
  (W4_of m ρ c main_v2_1 (by decide +kernel)).trans (V3_scale m ρ c h)
theorem V4_weights (c : Dev nD) : V4 m ρ c main_v4 = S m c := by
  have e : W3 m ρ c (Proc.devRef .tc main_arg3) = m ((c : Thread nD τ).loc main_arg3) := W3_args m ρ c main_arg3 (by decide)
  have : V4 m ρ c main_v4 = shapeCast S1x1 (W3 m ρ c (Proc.devRef .tc main_arg3)) shapeCasts_S_S1x1 := by
    after_reads_simp
    rfl
  rw [this, e]

theorem V5_out (c : Dev nD) (h : Below m c) :
    V5 m ρ c main_v5 = outArr (X m c) (G m c) (m ((c : Thread nD τ).loc main_arg2)) (S m c) := by
  refine (W5_arr m ρ c 4).trans ((out_final (V4 m ρ) c).trans ?_)
  have e : V4 m ρ c main_arg2 = m ((c : Thread nD τ).loc main_arg2) := W4_args m ρ c main_arg2 (by decide)
  rw [V4_codes m ρ c h, V4_scale m ρ c h, V4_weights, e]
  rfl
theorem V5_codes (c : Dev nD) (h : Below m c) : V5 m ρ c main_v3 = codesArr (X m c) (G m c) :=
  (W5_of m ρ c main_v3 (by decide +kernel)).trans (V4_codes m ρ c h)
theorem V5_scale (c : Dev nD) (h : Below m c) : V5 m ρ c main_v2_1 = scaleArr (X m c) (G m c) :=
  (W5_of m ρ c main_v2_1 (by decide +kernel)).trans (V4_scale m ρ c h)

/-! The results. -/

theorem result_out (c : Dev nD) (h : Below m c) : W6 m ρ c (Proc.devRef .tc main_v6)
    = shapeCast S2x8192x18432 (outArr (X m c) (G m c) (m ((c : Thread nD τ).loc main_arg2)) (S m c)) shapeCasts_S16384x18432_S2x8192x18432 := by
  rw [← V5_out m ρ c h]
  after_reads_simp
  rfl

theorem result_codes (c : Dev nD) (h : Below m c) : W6 m ρ c (Proc.devRef .tc main_v7)
    = shapeCast S2x8192x7168 (codesArr (X m c) (G m c)) shapeCasts_S16384x7168_S2x8192x7168 := by
  rw [← V5_codes m ρ c h]
  after_reads_simp
  rfl

theorem result_scale (c : Dev nD) (h : Below m c) : W6 m ρ c (Proc.devRef .tc main_v8)
    = shapeCast S_ (scaleArr (X m c) (G m c)) shapeCasts_S1x1_S_ := by
  rw [← V5_scale m ρ c h]
  after_reads_simp
  rfl

end Cert.KernelIdeal.Whole

end
-- ==== Proof.Values.InRange.lean ====
/-
  What the precondition says of the norm's weights: each is at most 2^128 in magnitude, so that the number the scale is
  found from is below 2^126.
-/
module

public import proofs.«01_k».proof.Pre_gamma_in_range
public import proofs.«01_k».proof.Proof.Values.KernelRun
public import Idealize.ShloMosaic.Lib.ReduceAll

@[expose] public section

set_option maxRecDepth 16384

noncomputable section

open Idealize.ShloMosaic

namespace Cert.KernelIdeal.Whole

open Cert.KernelIdeal Cert.KernelIdeal.Gen Cert.Plain

/-- The greatest finite number of the weights' format is below 2^128. -/
theorem greatest : Ideal.ofBits .bf16 0x7F7F#16 ≤ (((2 : ℝ) ^ (128 : ℤ) : ℝ) : EReal) := by
  have : Ideal.ofBits .bf16 0x7F7F#16 = ((255 * (2 : ℝ) ^ (120 : ℤ) : ℝ) : EReal) := by simp [Ideal.ofBits, Ideal.ieee]
  rw [this, EReal.coe_le_coe_iff]
  norm_num

/-- Each weight is in range. -/
theorem weight_le [Cert.Pre_gamma_in_range.Facts] {x : FVec Ideal Cert.Pre_gamma_in_range.S2x8192x7168 .bf16}
    {g : FVec Ideal Cert.Pre_gamma_in_range.S7168 .bf16} {w : FVec Ideal Cert.Pre_gamma_in_range.S7168x18432 .fp8e4m3}
    {ws : FVec Ideal Cert.Pre_gamma_in_range.S_ .f32}
    (h : Cert.Pre_gamma_in_range.fn (F := Ideal) x g w ws = fun _ => 1#1) (i : Cert.Pre_gamma_in_range.S7168.Idx) :
    mag (g i) ≤ (((2 : ℝ) ^ (128 : ℤ) : ℝ) : EReal) := by
  dsimp only [Cert.Pre_gamma_in_range.fn] at h
  have h1 := Host.reduce_andi_all _ _ _ _ _ (congrFun h (Shape.Idx.first Cert.Pre_gamma_in_range.Facts.h_S_)) i
  refine le_trans ?_ greatest
  have h2 : BitVec.ofBool (decide (mag (g i) ≤ Ideal.ofBits .bf16 0x7F7F#16)) = 1#1 := h1
  by_contra h3
  rw [decide_eq_false h3] at h2
  exact absurd h2 (by decide)

end Cert.KernelIdeal.Whole

end
-- ==== Proof.Values.RefBody.lean ====
/-
  The values that the body of the reference computes, as the plain layer of its loaded arrays.
-/
module

public import proofs.«01_k».proof.Proof.Gen.ReferenceIdeal.Frame
public import proofs.«01_k».proof.Proof.Values.StatsValue
public import Idealize.ShloMosaic.Lib.Pipeline.ValueKit
public import Idealize.ShloMosaic.Lib.Pipeline.ReadBack
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Whole

open Cert.ReferenceIdeal Cert.ReferenceIdeal.Gen Cert.Plain
open Cert.KernelIdeal.Whole (rowsOf weightsOf leastAbove)

/-- The normalised entries. -/
theorem normed_eq (x : Vec Ideal S16384x7168 .bf16) (g : Vec Ideal S1x7168 .bf16) (r : Fin 16384) (k : Fin 7168) :
    (k0_pay3 x g : Vec Ideal S16384x7168 .f32) (ix2 r k) = normed (rowsOf x) (weightsOf g) r k := by
  unfold normed
  rw [rnorm_count]
  unfold rowsOf weightsOf
  pointwise [k0_pay3]

/-- The least number of a family that also runs over one row. -/
theorem fold_one (b : EReal) (f : Fin 253 → EReal) :
    (Finset.univ.fold min b fun p : Fin 1 × Fin 253 => f p.2) = Finset.univ.fold min b f := by
  refine eq_of_forall_le_iff fun z => ?_
  rw [Finset.le_fold_min, Finset.le_fold_min]
  exact and_congr_right fun _ => ⟨fun h k _ => h (0, k) (Finset.mem_univ _), fun h p _ => h p.2 (Finset.mem_univ _)⟩

/-- The least power above, as a minimum that also runs over one row. -/
theorem above_one (a : EReal) :
    (if a < Ideal.ofBits .f32 0x00800000#32 then (1 : EReal)
      else Finset.univ.fold min (Ideal.ofBits .f32 0x7F800000#32) fun p : Fin 1 × Fin 253 =>
        if a < (FloatOps.exp2 (FloatOps.sitofp (F := Ideal) .f32 (BitVec.ofNat 32 p.2.val) - Ideal.ofBits .f32 0x42FA0000#32 : EReal) : EReal)
        then (FloatOps.exp2 (FloatOps.sitofp (F := Ideal) .f32 (BitVec.ofNat 32 p.2.val) - Ideal.ofBits .f32 0x42FA0000#32 : EReal) : EReal)
        else Ideal.ofBits .f32 0x7F800000#32) = leastAbove a := by
  unfold leastAbove
  rw [← fold_one]
  rfl

/-- The scale. -/
theorem scale_eq (x : Vec Ideal S16384x7168 .bf16) (g : Vec Ideal S1x7168 .bf16) :
    (k0_pay4 x g : EReal) = scale (rowsOf x) (weightsOf g) := by
  generalize hz : scale (rowsOf x) (weightsOf g) = z
  generalize hv : k0_pay3 x g = v
  have hm : ∀ p : Fin 16384 × Fin 7168, (FloatOps.absf (F := Ideal) (φ := .f32) (v (ix2 p.1 p.2)) : EReal) = mag (normed (rowsOf x) (weightsOf g) p.1 p.2) := fun p => by
    rw [← hv, normed_eq]; rfl
  pointwise [k0_pay4]
  rw [hv]
  simp only [hm]
  rw [← hz]
  unfold scale
  have ht : (Finset.univ.fold max (Ideal.ofBits .f32 0xFF800000#32) fun p : Fin 16384 × Fin 7168 =>
      mag (normed (rowsOf x) (weightsOf g) p.1 p.2)) * Ideal.ofBits .f32 0x3B124925#32 = top (rowsOf x) (weightsOf g) := by
    unfold top; rfl
  rw [ht]
  exact above_one _

/-- One over a number. -/
theorem one_over (s : EReal) : Scalar.divf (F := Ideal) (φ := .f32) (Scalar.ofBits .f32 0x3F800000#32) s = Ideal.div 1 s := by
  have h : (Scalar.ofBits (F := Ideal) .f32 0x3F800000#32 : EReal) = 1 := Cert.KernelIdeal.Whole.one_field
  rw [h]
  rfl

/-- The entries over the scale. -/
theorem quotient_eq (x : Vec Ideal S16384x7168 .bf16) (g : Vec Ideal S1x7168 .bf16) :
    (k0_pay5 x g : Vec Ideal S16384x7168 .f32)
      = mulf (k0_pay3 x g) (broadcast S16384x7168 (Ideal.div 1 (k0_pay4 x g) : Ideal .f32)) := by
  generalize hs : k0_pay4 x g = s
  generalize hv : k0_pay3 x g = v
  unfold k0_pay5
  dsimp only
  rw [hs, hv]
  exact congrArg (fun d : Ideal .f32 => mulf v (broadcast S16384x7168 d)) (one_over s)

/-- An entry clipped, for any entries. -/
theorem clip_eq (v : FVec Ideal S16384x7168 .f32) (d : Ideal .f32) (r : Fin 16384) (k : Fin 7168) :
    (k0_pay1 (F := Ideal) (mulf v (broadcast S16384x7168 d)) (Scalar.ofBits .f32 0x43E00000#32) k0_pay6) (ix2 r k)
      = min (Ideal.ofBits .f32 0x43E00000#32) (max (Ideal.ofBits .f32 0xC3E00000#32) (v (ix2 r k) * d : EReal)) := by
  pointwise [k0_pay1, k0_pay6]

/-- The codes. -/
theorem code_eq (x : Vec Ideal S16384x7168 .bf16) (g : Vec Ideal S1x7168 .bf16) (r : Fin 16384) (k : Fin 7168) :
    (k0_pay1 (k0_pay5 x g) (Scalar.ofBits .f32 0x43E00000#32) k0_pay6 : Vec Ideal S16384x7168 .fp8e4m3) (ix2 r k)
      = code (rowsOf x) (weightsOf g) r k := by
  rw [quotient_eq, clip_eq, normed_eq, scale_eq]
  unfold code
  rfl

/-- The scaled product of any codes and weights. -/
theorem product_eq (s : Ideal .f32) (v : FVec Ideal S16384x7168 .f32) (a : Ideal .f32) (b : FVec Ideal S16384x7168 .f32)
    (w : Vec Ideal S7168x18432 .fp8e4m3) (ws : Ideal .f32) (r : Fin 16384) (q : Fin 18432) :
    (k0_pay2 (F := Ideal) s v a b w ws) (ix2 r q)
      = (0 + ∑ k : Fin 7168, (k0_pay1 (F := Ideal) v a b (ix2 r k) : EReal) * w (ix2 k q) : EReal) * ((s : EReal) * ws) := by
  generalize hc : k0_pay1 (F := Ideal) v a b = codes
  unfold k0_pay2
  rw [hc]
  pointwise

/-- The scaled product. -/
theorem out_eq (x : Vec Ideal S16384x7168 .bf16) (g : Vec Ideal S1x7168 .bf16) (w : Vec Ideal S7168x18432 .fp8e4m3)
    (ws : Ideal .f32) (r : Fin 16384) (q : Fin 18432) :
    (k0_pay2 (F := Ideal) (k0_pay4 x g) (k0_pay5 x g) (Scalar.ofBits .f32 0x43E00000#32) k0_pay6 w ws) (ix2 r q)
      = out (rowsOf x) (weightsOf g) (fun k q => w (ix2 k q)) ws r q := by
  rw [product_eq]
  simp only [code_eq]
  rw [scale_eq]
  unfold out
  rfl

end Cert.ReferenceIdeal.Whole

end
-- ==== Proof.Values.RefValue.lean ====
/-
  What the reference leaves in its three result arrays: the product, the codes and the scale of the plain layer.
-/
module

public import proofs.«01_k».proof.Proof.Gen.ReferenceIdeal.Frame
public import proofs.«01_k».proof.Proof.Values.RefBody
public import Idealize.ShloMosaic.Lib.Pipeline.ValueKit
public import Idealize.ShloMosaic.Lib.Pipeline.ReadBack
public import Idealize.ShloMosaic.Lib.Tactic
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Whole

open Cert.ReferenceIdeal Cert.ReferenceIdeal.Gen Cert.Plain
open Cert.KernelIdeal.Whole (rowsOf weightsOf codesArr outArr scaleArr)

variable (m : (ℓ : Loc nD τ sig) → Buf (Elt Ideal) ℓ) (ρ : Dev nD → PrngReg)

/-- The one point's blocks are the whole arrays. -/
theorem idx : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by decide +kernel

/-- The block of rows is the array of rows. -/
theorem block_rows (c : Dev nD) (t : Fin cfg0.N) : rowsOf (iblk m c 0 t) = rowsOf (V m c main_v0) := by
  funext r k
  unfold rowsOf
  blk_point [iblk, idx t]

theorem block_weights (c : Dev nD) (t : Fin cfg0.N) : weightsOf (iblk m c 1 t) = weightsOf (V m c main_v1) := by
  funext k
  unfold weightsOf
  blk_point [iblk, idx t]

theorem block_product (c : Dev nD) (t : Fin cfg0.N) : (fun k q => (iblk m c 2 t : Vec Ideal S7168x18432 .fp8e4m3) (ix2 k q))
    = fun k q => (V m c main_arg2 : Vec Ideal S7168x18432 .fp8e4m3) (ix2 k q) := by
  funext k q
  blk_point [iblk, idx t]

theorem block_scale (c : Dev nD) (t : Fin cfg0.N) (i : S1x1.Idx) : (iblk m c 3 t : Vec Ideal S1x1 .f32) i
    = (V m c main_v2 : Vec Ideal S1x1 .f32) (ix2 0 0) := by
  have : i = ix2 0 0 := by ext a; fin_cases a <;> exact congrArg Fin.val (Subsingleton.elim (α := Fin 1) _ _)
  rw [this]
  blk_point [iblk, idx t]

/-- The array of codes after the run. -/
theorem codes_final (c : Dev nD) : (dats m 0 c).arrAt 5 cfg0.N = codesArr (V m c main_v0) (V m c main_v1) := by
  generalize hX : codesArr (V m c main_v0) (V m c main_v1) = X
  refine (dats m 0 c).arrAt_eq_of_covers 5 _ (by decide +kernel) fun t hf y => ?_
  blk_simp
  rw [after0_5]
  unfold outsAt0
  frame_out
  simp only [read_unread_whole]
  idx_vars y
  rw [code_eq, block_rows, block_weights]
  refine (congrFun hX (ix2 y0 y1)).trans ?_
  blk_point [idx t]

/-- The array of the product after the run. -/
theorem out_final (c : Dev nD) : (dats m 0 c).arrAt 4 cfg0.N
    = outArr (V m c main_v0) (V m c main_v1) (V m c main_arg2) (V m c main_v2) := by
  generalize hX : outArr (V m c main_v0) (V m c main_v1) (V m c main_arg2) (V m c main_v2) = X
  refine (dats m 0 c).arrAt_eq_of_covers 4 _ (by decide +kernel) fun t hf y => ?_
  blk_simp
  rw [after0_4]
  unfold outsAt0
  frame_out
  simp only [read_unread_whole]
  idx_vars y
  rw [out_eq, block_rows, block_weights, block_product, block_scale]
  refine (congrFun hX (ix2 y0 y1)).trans ?_
  blk_point [idx t]

/-- The scale's array after the run. -/
theorem scale_final (c : Dev nD) : (dats m 0 c).arrAt 6 cfg0.N = scaleArr (V m c main_v0) (V m c main_v1) := by
  refine (dats m 0 c).arrAt_eq_of_covers 6 _ (by decide +kernel) fun t hf y => ?_
  blk_simp
  rw [after0_6]
  unfold outsAt0
  frame_out
  simp only [read_unread_whole]
  rw [scale_eq, block_rows, block_weights]
  rfl

end Cert.ReferenceIdeal.Whole

end
-- ==== Proof.Values.RefRun.lean ====
/-
  The run of the reference: its results are the three arrays of the plain layer of the reshaped arguments, reshaped.
-/
module

public import proofs.«01_k».proof.Proof.Values.RefValue
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)
open scoped BigOperators

namespace Cert.ReferenceIdeal.Whole

open Cert.ReferenceIdeal Cert.ReferenceIdeal.Gen Cert.Plain
open Cert.KernelIdeal.Whole (codesArr outArr scaleArr)

variable (m : (ℓ : Loc nD τ sig) → Buf (Elt Ideal) ℓ) (ρ : Dev nD → PrngReg)

theorem V_rows (c : Dev nD) : V m c main_v0
    = shapeCast S16384x7168 (m ((c : Thread nD τ).loc main_arg0)) shapeCasts_S2x8192x7168_S16384x7168 := by
  after_reads_simp
  rfl

theorem V_weights (c : Dev nD) : V m c main_v1
    = shapeCast S1x7168 (m ((c : Thread nD τ).loc main_arg1)) shapeCasts_S7168_S1x7168 := by
  after_reads_simp
  rfl

theorem V_scale (c : Dev nD) : V m c main_v2
    = shapeCast S1x1 (m ((c : Thread nD τ).loc main_arg3)) shapeCasts_S_S1x1 := by
  after_reads_simp
  rfl

theorem tail_out (c : Dev nD) : Pipeline.afterTail₀ cfgs (dats m) 0 (V0 m) [hostOps1] c main_v4
    = shapeCast S2x8192x18432 ((dats m 0 c).arrAt 4 cfg0.N : Vec Ideal S16384x18432 .bf16) shapeCasts_S16384x18432_S2x8192x18432 := by
  rw [← Pipeline.withArrays_arr spec0 launch0.win.arr_inj c (V0 m c) (fun w => (dats m 0 c).arrAt w cfg0.N) 4]
  unfold Pipeline.afterTail₀
  after_reads_simp
  rfl

theorem tail_codes (c : Dev nD) : Pipeline.afterTail₀ cfgs (dats m) 0 (V0 m) [hostOps1] c main_v5
    = shapeCast S2x8192x7168 ((dats m 0 c).arrAt 5 cfg0.N : Vec Ideal S16384x7168 .fp8e4m3) shapeCasts_S16384x7168_S2x8192x7168 := by
  rw [← Pipeline.withArrays_arr spec0 launch0.win.arr_inj c (V0 m c) (fun w => (dats m 0 c).arrAt w cfg0.N) 5]
  unfold Pipeline.afterTail₀
  after_reads_simp
  rfl

theorem tail_scale (c : Dev nD) : Pipeline.afterTail₀ cfgs (dats m) 0 (V0 m) [hostOps1] c main_v6
    = shapeCast S_ ((dats m 0 c).arrAt 6 cfg0.N : Vec Ideal S1x1 .f32) shapeCasts_S1x1_S_ := by
  rw [← Pipeline.withArrays_arr spec0 launch0.win.arr_inj c (V0 m c) (fun w => (dats m 0 c).arrAt w cfg0.N) 6]
  unfold Pipeline.afterTail₀
  after_reads_simp
  rfl

/-- The run: the three results of the arguments, the arguments unchanged. -/
theorem run : θ_run defs (onTc (τ := τ) (main (F := Ideal))) ⟨m, fun _ => 0, ρ⟩ fun r => ∀ c : Dev nD,
      r.2.mem ((c.tc : Thread nD τ).loc main_v4) = shapeCast S2x8192x18432
        (outArr (shapeCast S16384x7168 (m ((c : Thread nD τ).loc main_arg0)) shapeCasts_S2x8192x7168_S16384x7168)
          (shapeCast S1x7168 (m ((c : Thread nD τ).loc main_arg1)) shapeCasts_S7168_S1x7168)
          (m ((c : Thread nD τ).loc main_arg2))
          (shapeCast S1x1 (m ((c : Thread nD τ).loc main_arg3)) shapeCasts_S_S1x1)) shapeCasts_S16384x18432_S2x8192x18432
      ∧ r.2.mem ((c.tc : Thread nD τ).loc main_v5) = shapeCast S2x8192x7168
        (codesArr (shapeCast S16384x7168 (m ((c : Thread nD τ).loc main_arg0)) shapeCasts_S2x8192x7168_S16384x7168)
          (shapeCast S1x7168 (m ((c : Thread nD τ).loc main_arg1)) shapeCasts_S7168_S1x7168)) shapeCasts_S16384x7168_S2x8192x7168
      ∧ r.2.mem ((c.tc : Thread nD τ).loc main_v6) = shapeCast S_
        (scaleArr (shapeCast S16384x7168 (m ((c : Thread nD τ).loc main_arg0)) shapeCasts_S2x8192x7168_S16384x7168)
          (shapeCast S1x7168 (m ((c : Thread nD τ).loc main_arg1)) shapeCasts_S7168_S1x7168)) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r (h : _ ∧ _) c => ?_) (θ_run_and (run_main m ρ) (unchanged m ρ))
  refine ⟨?_, ?_, ?_, h.2 c⟩
  · refine ((h.1 c).2 main_v4 (Pipeline.mem_restRefs_of main_v4 (by decide) (by decide))).trans ((tail_out m c).trans ?_)
    rw [out_final, V_rows, V_weights, V_scale, V_main_arg2]
  · refine ((h.1 c).2 main_v5 (Pipeline.mem_restRefs_of main_v5 (by decide) (by decide))).trans ((tail_codes m c).trans ?_)
    rw [codes_final, V_rows, V_weights]
  · refine ((h.1 c).2 main_v6 (Pipeline.mem_restRefs_of main_v6 (by decide) (by decide))).trans ((tail_scale m c).trans ?_)
    rw [scale_final, V_rows, V_weights]

end Cert.ReferenceIdeal.Whole

end
-- ==== Proof.lean ====
/-
  The proof of `Cert.Claim`: the frames, and the algebraic claim from the two runs, both of which end with the product, the
  codes and the scale of the plain layer of the arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_gamma_in_range
public import proofs.«01_k».proof.Proof.Whole.Run
public import proofs.«01_k».proof.Proof.Whole.Same
public import proofs.«01_k».proof.Proof.Values.KernelRun
public import proofs.«01_k».proof.Proof.Values.InRange
public import proofs.«01_k».proof.Proof.Values.RefRun
public import Idealize.ShloMosaic.Adequacy
public import Idealize.ShloMosaic.Init

@[expose] public section

set_option maxRecDepth 16384

noncomputable section

namespace Cert.Proof

open Idealize.ShloMosaic Idealize.SL.Sem

/-- With the norm's weights in range, from equal arguments both programs run and end with equal results. -/
theorem algebraic : Cert.algebraic_KernelIdeal_ReferenceIdeal_pre_gamma_in_range (hKernelIdeal := Cert.KernelIdeal.Gen.facts)
    (hReferenceIdeal := Cert.ReferenceIdeal.Gen.facts) (hPre_gamma_in_range := Cert.Pre_gamma_in_range.Gen.facts) := by
  intro m g m' g' hpre hag
  have hb : ∀ c, Cert.KernelIdeal.Whole.Below m c := fun c =>
    Cert.Plain.top_lt _ _ fun k => Cert.KernelIdeal.Whole.weight_le (hpre c) _
  refine ⟨_, _, _, (θ_run _ _ _).mono (fun r h c => ⟨(h.1 c).1.trans (Cert.KernelIdeal.Whole.result_out m g c (hb c)),
    (h.1 c).2.1.trans (Cert.KernelIdeal.Whole.result_codes m g c (hb c)),
    (h.1 c).2.2.1.trans (Cert.KernelIdeal.Whole.result_scale m g c (hb c)), (h.1 c).2.2.2⟩) (Cert.KernelIdeal.Whole.run m g), ?_⟩
  refine (θ_run _ _ _).mono (fun r h c => ⟨(h c).1.trans ?_, (h c).2.1.trans ?_, (h c).2.2.1.trans ?_, (h c).2.2.2⟩)
    (Cert.ReferenceIdeal.Whole.run m' g')
  · rw [(hag c).1, (hag c).2.1, (hag c).2.2.1, (hag c).2.2.2]
  · rw [(hag c).1, (hag c).2.1]
  · rw [(hag c).1, (hag c).2.1]

theorem claim : Cert.Claim :=
  ⟨Cert.Kernel.Gen.facts, Cert.KernelIdeal.Gen.facts, Cert.ReferenceIdeal.Gen.facts, Cert.Pre_gamma_in_range.Gen.facts,
    Cert.KernelIdeal.Whole.frame_bits,
    fun m g _ => Cert.KernelIdeal.Whole.frame m g,
    fun m g _ => Cert.KernelIdeal.Whole.frame m g,
    fun m g _ => Cert.ReferenceIdeal.Gen.frame m g,
    fun m g _ => Cert.ReferenceIdeal.Gen.frame m g,
    IdealRules.named_const.statement _ _ _ _ _ rfl, algebraic⟩

end Cert.Proof

end
